-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x64 : Shape := ⟨2, ![10000, 64]⟩
abbrev S64x64 : Shape := ⟨2, ![64, 64]⟩
abbrev S_ : Shape := ⟨0, ![]⟩
abbrev S10000x10000 : Shape := ⟨2, ![10000, 10000]⟩
abbrev S200x64 : Shape := ⟨2, ![200, 64]⟩
abbrev S200x10000 : Shape := ⟨2, ![200, 10000]⟩
abbrev S40x10000 : Shape := ⟨2, ![40, 10000]⟩
abbrev S40 : Shape := ⟨1, ![40]⟩
abbrev S40x1 : Shape := ⟨2, ![40, 1]⟩
abbrev S1x1x10000x10000 : Shape := ⟨4, ![1, 1, 10000, 10000]⟩

abbrev nBuf : Space → Nat
  | .hbm => 25
  | .vmem => 12
  | .smem => 0
  | _ => 0

abbrev bufTy : (tb : Table) → Fin (tcTables nBuf tb) → BufTy
  | .hbm, ⟨0, _⟩ => ⟨S10000x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S10000x64, .f32⟩
  | .hbm, ⟨5, _⟩ => ⟨S_, .f32⟩
  | .hbm, ⟨6, _⟩ => ⟨S10000x64, .f32⟩
  | .hbm, ⟨7, _⟩ => ⟨S10000x64, .f32⟩
  | .hbm, ⟨8, _⟩ => ⟨S10000x64, .f32⟩
  | .hbm, ⟨9, _⟩ => ⟨S64x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x64, .f32⟩
  | .hbm, ⟨15, _⟩ => ⟨S10000x10000, .f32⟩
  | .hbm, ⟨16, _⟩ => ⟨S_, .f32⟩
  | .hbm, ⟨17, _⟩ => ⟨S10000x10000, .f32⟩
  | .hbm, ⟨18, _⟩ => ⟨S10000x10000, .f32⟩
  | .hbm, ⟨19, _⟩ => ⟨S10000x10000, .f32⟩
  | .hbm, ⟨20, _⟩ => ⟨S_, .f32⟩
  | .hbm, ⟨21, _⟩ => ⟨S10000x10000, .f32⟩
  | .hbm, ⟨22, _⟩ => ⟨S10000x10000, .f32⟩
  | .hbm, ⟨23, _⟩ => ⟨S10000x10000, .f32⟩
  | .hbm, ⟨24, _⟩ => ⟨S1x1x10000x10000, .f32⟩
  | .local _ .vmem, ⟨0, _⟩ => ⟨S200x64, .f32⟩
  | .local _ .vmem, ⟨1, _⟩ => ⟨S200x64, .f32⟩
  | .local _ .vmem, ⟨2, _⟩ => ⟨S200x64, .f32⟩
  | .local _ .vmem, ⟨3, _⟩ => ⟨S200x64, .f32⟩
  | .local _ .vmem, ⟨4, _⟩ => ⟨S10000x64, .f32⟩
  | .local _ .vmem, ⟨5, _⟩ => ⟨S10000x64, .f32⟩
  | .local _ .vmem, ⟨6, _⟩ => ⟨S200x10000, .f32⟩
  | .local _ .vmem, ⟨7, _⟩ => ⟨S200x10000, .f32⟩
  | .local _ .vmem, ⟨8, _⟩ => ⟨S40x10000, .f32⟩
  | .local _ .vmem, ⟨9, _⟩ => ⟨S40x10000, .f32⟩
  | .local _ .vmem, ⟨10, _⟩ => ⟨S40x10000, .f32⟩
  | .local _ .vmem, ⟨11, _⟩ => ⟨S40x10000, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S40x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S40x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S10000x64 : Shape := ⟨2, ![10000, 64]⟩
abbrev S64x64 : Shape := ⟨2, ![64, 64]⟩
abbrev S_ : Shape := ⟨0, ![]⟩
abbrev S64x10000 : Shape := ⟨2, ![64, 10000]⟩
abbrev S10000x10000 : Shape := ⟨2, ![10000, 10000]⟩
abbrev S1 : Shape := ⟨1, ![1]⟩
abbrev S2 : Shape := ⟨1, ![2]⟩
abbrev S1x1 : Shape := ⟨2, ![1, 1]⟩
abbrev S10000x20 : Shape := ⟨2, ![10000, 20]⟩
abbrev S10000 : Shape := ⟨1, ![10000]⟩
abbrev S10000x1 : Shape := ⟨2, ![10000, 1]⟩
abbrev S10000x20x1 : Shape := ⟨3, ![10000, 20, 1]⟩
abbrev S10000x20x2 : Shape := ⟨3, ![10000, 20, 2]⟩
abbrev S1x10000x10000 : Shape := ⟨3, ![1, 10000, 10000]⟩
abbrev S1x1x10000x10000 : Shape := ⟨4, ![1, 1, 10000, 10000]⟩

abbrev nBuf : Space → Nat
  | .hbm => 572
  | .vmem => 0
  | .smem => 0
  | _ => 0

abbrev hbmTy0_0 (i : Nat) : BufTy := match i % 128 with
  | 0 => ⟨S10000x64, .f32⟩
  | 1 => ⟨S64x64, .f32⟩
  | 2 => ⟨S64x64, .f32⟩
  | 3 => ⟨S64x64, .f32⟩
  | 4 => ⟨S10000x64, .f32⟩
  | 5 => ⟨S_, .f32⟩
  | 6 => ⟨S10000x64, .f32⟩
  | 7 => ⟨S10000x64, .f32⟩
  | 8 => ⟨S10000x64, .f32⟩
  | 9 => ⟨S64x64, .f32⟩
  | 10 => ⟨S10000x64, .f32⟩
  | 11 => ⟨S_, .f32⟩
  | 12 => ⟨S10000x64, .f32⟩
  | 13 => ⟨S10000x64, .f32⟩
  | 14 => ⟨S10000x64, .f32⟩
  | 15 => ⟨S64x10000, .f32⟩
  | 16 => ⟨S10000x10000, .f32⟩
  | 17 => ⟨S64x10000, .f32⟩
  | 18 => ⟨S10000x10000, .f32⟩
  | 19 => ⟨S10000x10000, .f32⟩
  | 20 => ⟨S_, .f32⟩
  | 21 => ⟨S10000x10000, .f32⟩
  | 22 => ⟨S10000x10000, .f32⟩
  | 23 => ⟨S10000x10000, .f32⟩
  | 24 => ⟨S_, .f32⟩
  | 25 => ⟨S10000x10000, .f32⟩
  | 26 => ⟨S10000x10000, .f32⟩
  | 27 => ⟨S_, .i32⟩
  | 28 => ⟨S_, .i32⟩
  | 29 => ⟨S_, .i32⟩
  | 30 => ⟨S_, .i32⟩
  | 31 => ⟨S1, .i32⟩
  | 32 => ⟨S_, .i32⟩
  | 33 => ⟨S_, .i32⟩
  | 34 => ⟨S_, .i32⟩
  | 35 => ⟨S1, .i32⟩
  | 36 => ⟨S2, .i32⟩
  | 37 => ⟨S_, .i32⟩
  | 38 => ⟨S_, .i32⟩
  | 39 => ⟨S_, .i32⟩
  | 40 => ⟨S1, .i32⟩
  | 41 => ⟨S_, .i32⟩
  | 42 => ⟨S_, .i32⟩
  | 43 => ⟨S1, .i32⟩
  | 44 => ⟨S2, .i32⟩
  | 45 => ⟨S1, .i32⟩
  | 46 => ⟨S_, .i32⟩
  | 47 => ⟨S1, .i32⟩
  | 48 => ⟨S_, .i32⟩
  | 49 => ⟨S1, .i32⟩
  | 50 => ⟨S1, .i32⟩
  | 51 => ⟨S_, .i32⟩
  | 52 => ⟨S_, .i32⟩
  | 53 => ⟨S_, .i32⟩
  | 54 => ⟨S1, .i32⟩
  | 55 => ⟨S1, .i32⟩
  | 56 => ⟨S1, .i32⟩
  | 57 => ⟨S1, .i32⟩
  | 58 => ⟨S1, .i32⟩
  | 59 => ⟨S_, .i32⟩
  | 60 => ⟨S1, .i32⟩
  | 61 => ⟨S1, .i32⟩
  | 62 => ⟨S_, .i32⟩
  | 63 => ⟨S1, .i32⟩
  | 64 => ⟨S1, .i32⟩
  | 65 => ⟨S1, .i32⟩
  | 66 => ⟨S1, .i32⟩
  | 67 => ⟨S1, .i32⟩
  | 68 => ⟨S_, .i32⟩
  | 69 => ⟨S1, .i32⟩
  | 70 => ⟨S1, .i32⟩
  | 71 => ⟨S_, .i32⟩
  | 72 => ⟨S1, .i32⟩
  | 73 => ⟨S1, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S_, .i32⟩
  | 103 => ⟨S1, .i32⟩
  | 104 => ⟨S1, .i32⟩
  | 105 => ⟨S_, .i32⟩
  | 106 => ⟨S1, .i32⟩
  | 107 => ⟨S1, .i32⟩
  | 108 => ⟨S1, .i32⟩
  | 109 => ⟨S1, .i32⟩
  | 110 => ⟨S1, .i32⟩
  | 111 => ⟨S_, .i32⟩
  | 112 => ⟨S1, .i32⟩
  | 113 => ⟨S1, .i32⟩
  | 114 => ⟨S_, .i32⟩
  | 115 => ⟨S1, .i32⟩
  | 116 => ⟨S1, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S10000x64, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S1, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S_, .i32⟩
  | 18 => ⟨S1, .i32⟩
  | 19 => ⟨S1, .i32⟩
  | 20 => ⟨S_, .i32⟩
  | 21 => ⟨S1, .i32⟩
  | 22 => ⟨S1, .i32⟩
  | 23 => ⟨S1, .i32⟩
  | 24 => ⟨S1, .i32⟩
  | 25 => ⟨S1, .i32⟩
  | 26 => ⟨S_, .i32⟩
  | 27 => ⟨S1, .i32⟩
  | 28 => ⟨S1, .i32⟩
  | 29 => ⟨S_, .i32⟩
  | 30 => ⟨S1, .i32⟩
  | 31 => ⟨S1, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S1, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S_, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S_, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S10000x64, .f32⟩

abbrev hbmTy0_2 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S_, .i32⟩
  | 6 => ⟨S1, .i32⟩
  | 7 => ⟨S1, .i32⟩
  | 8 => ⟨S1, .i32⟩
  | 9 => ⟨S1, .i32⟩
  | 10 => ⟨S1, .i32⟩
  | 11 => ⟨S1, .i32⟩
  | 12 => ⟨S1, .i32⟩
  | 13 => ⟨S1, .i32⟩
  | 14 => ⟨S_, .i32⟩
  | 15 => ⟨S1, .i32⟩
  | 16 => ⟨S1, .i32⟩
  | 17 => ⟨S2, .i32⟩
  | 18 => ⟨S_, .f32⟩
  | 19 => ⟨S_, .f32⟩
  | 20 => ⟨S_, .f32⟩
  | 21 => ⟨S_, .f32⟩
  | 22 => ⟨S1x1, .f32⟩
  | 23 => ⟨S1x1, .f32⟩
  | 24 => ⟨S1, .i32⟩
  | 25 => ⟨S_, .i32⟩
  | 26 => ⟨S1, .i32⟩
  | 27 => ⟨S_, .i32⟩
  | 28 => ⟨S10000x10000, .i64⟩
  | 29 => ⟨S10000x10000, .i64⟩
  | 30 => ⟨S_, .i64⟩
  | 31 => ⟨S10000x10000, .i64⟩
  | 32 => ⟨S10000x10000, .i64⟩
  | 33 => ⟨S_, .i64⟩
  | 34 => ⟨S10000x10000, .i64⟩
  | 35 => ⟨S10000x10000, .i64⟩
  | 36 => ⟨S10000x10000, .i64⟩
  | 37 => ⟨S_, .i64⟩
  | 38 => ⟨S10000x10000, .i64⟩
  | 39 => ⟨S10000x10000, .i64⟩
  | 40 => ⟨S10000x10000, .i32⟩
  | 41 => ⟨S10000x10000, .i32⟩
  | 42 => ⟨S_, .i32⟩
  | 43 => ⟨S_, .i32⟩
  | 44 => ⟨S_, .i32⟩
  | 45 => ⟨S10000x10000, .i32⟩
  | 46 => ⟨S10000x10000, .i32⟩
  | 47 => ⟨S10000x10000, .i32⟩
  | 48 => ⟨S10000x10000, .i32⟩
  | 49 => ⟨S10000x10000, .i32⟩
  | 50 => ⟨S_, .i32⟩
  | 51 => ⟨S10000x10000, .i32⟩
  | 52 => ⟨S10000x10000, .i32⟩
  | 53 => ⟨S_, .i32⟩
  | 54 => ⟨S10000x10000, .i32⟩
  | 55 => ⟨S10000x10000, .i32⟩
  | 56 => ⟨S10000x10000, .i32⟩
  | 57 => ⟨S10000x10000, .i32⟩
  | 58 => ⟨S10000x10000, .i32⟩
  | 59 => ⟨S_, .i32⟩
  | 60 => ⟨S10000x10000, .i32⟩
  | 61 => ⟨S10000x10000, .i32⟩
  | 62 => ⟨S_, .i32⟩
  | 63 => ⟨S10000x10000, .i32⟩
  | 64 => ⟨S10000x10000, .i32⟩
  | 65 => ⟨S10000x10000, .i32⟩
  | 66 => ⟨S10000x10000, .i32⟩
  | 67 => ⟨S10000x10000, .i32⟩
  | 68 => ⟨S_, .i32⟩
  | 69 => ⟨S10000x10000, .i32⟩
  | 70 => ⟨S10000x10000, .i32⟩
  | 71 => ⟨S_, .i32⟩
  | 72 => ⟨S10000x10000, .i32⟩
  | 73 => ⟨S10000x10000, .i32⟩
  | 74 => ⟨S10000x10000, .i32⟩
  | 75 => ⟨S10000x10000, .i32⟩
  | 76 => ⟨S10000x10000, .i32⟩
  | 77 => ⟨S_, .i32⟩
  | 78 => ⟨S10000x10000, .i32⟩
  | 79 => ⟨S10000x10000, .i32⟩
  | 80 => ⟨S_, .i32⟩
  | 81 => ⟨S10000x10000, .i32⟩
  | 82 => ⟨S10000x10000, .i32⟩
  | 83 => ⟨S10000x10000, .i32⟩
  | 84 => ⟨S10000x10000, .i32⟩
  | 85 => ⟨S10000x10000, .i32⟩
  | 86 => ⟨S10000x10000, .i32⟩
  | 87 => ⟨S10000x10000, .i32⟩
  | 88 => ⟨S10000x10000, .i32⟩
  | 89 => ⟨S_, .i32⟩
  | 90 => ⟨S10000x10000, .i32⟩
  | 91 => ⟨S10000x10000, .i32⟩
  | 92 => ⟨S10000x10000, .i32⟩
  | 93 => ⟨S_, .i32⟩
  | 94 => ⟨S10000x10000, .i32⟩
  | 95 => ⟨S10000x10000, .i32⟩
  | 96 => ⟨S_, .i32⟩
  | 97 => ⟨S10000x10000, .i32⟩
  | 98 => ⟨S10000x10000, .i32⟩
  | 99 => ⟨S10000x10000, .i32⟩
  | 100 => ⟨S10000x10000, .i32⟩
  | 101 => ⟨S10000x10000, .i32⟩
  | 102 => ⟨S_, .i32⟩
  | 103 => ⟨S10000x10000, .i32⟩
  | 104 => ⟨S10000x10000, .i32⟩
  | 105 => ⟨S_, .i32⟩
  | 106 => ⟨S10000x10000, .i32⟩
  | 107 => ⟨S10000x10000, .i32⟩
  | 108 => ⟨S10000x10000, .i32⟩
  | 109 => ⟨S10000x10000, .i32⟩
  | 110 => ⟨S10000x10000, .i32⟩
  | 111 => ⟨S_, .i32⟩
  | 112 => ⟨S10000x10000, .i32⟩
  | 113 => ⟨S10000x10000, .i32⟩
  | 114 => ⟨S_, .i32⟩
  | 115 => ⟨S10000x10000, .i32⟩
  | 116 => ⟨S10000x10000, .i32⟩
  | 117 => ⟨S10000x10000, .i32⟩
  | 118 => ⟨S10000x10000, .i32⟩
  | 119 => ⟨S10000x10000, .i32⟩
  | 120 => ⟨S_, .i32⟩
  | 121 => ⟨S10000x10000, .i32⟩
  | 122 => ⟨S10000x10000, .i32⟩
  | 123 => ⟨S_, .i32⟩
  | 124 => ⟨S10000x10000, .i32⟩
  | 125 => ⟨S10000x10000, .i32⟩
  | 126 => ⟨S10000x10000, .i32⟩
  | 127 => ⟨S10000x10000, .i32⟩
  | _ => ⟨S10000x64, .f32⟩

abbrev hbmTy0_3 (i : Nat) : BufTy := match i % 128 with
  | 0 => ⟨S10000x10000, .i32⟩
  | 1 => ⟨S10000x10000, .i32⟩
  | 2 => ⟨S10000x10000, .i32⟩
  | 3 => ⟨S10000x10000, .i32⟩
  | 4 => ⟨S_, .i32⟩
  | 5 => ⟨S10000x10000, .i32⟩
  | 6 => ⟨S10000x10000, .i32⟩
  | 7 => ⟨S10000x10000, .i32⟩
  | 8 => ⟨S_, .i32⟩
  | 9 => ⟨S10000x10000, .i32⟩
  | 10 => ⟨S10000x10000, .i32⟩
  | 11 => ⟨S_, .i32⟩
  | 12 => ⟨S10000x10000, .i32⟩
  | 13 => ⟨S10000x10000, .i32⟩
  | 14 => ⟨S10000x10000, .i32⟩
  | 15 => ⟨S10000x10000, .i32⟩
  | 16 => ⟨S10000x10000, .i32⟩
  | 17 => ⟨S_, .i32⟩
  | 18 => ⟨S10000x10000, .i32⟩
  | 19 => ⟨S10000x10000, .i32⟩
  | 20 => ⟨S_, .i32⟩
  | 21 => ⟨S10000x10000, .i32⟩
  | 22 => ⟨S10000x10000, .i32⟩
  | 23 => ⟨S10000x10000, .i32⟩
  | 24 => ⟨S10000x10000, .i32⟩
  | 25 => ⟨S10000x10000, .i32⟩
  | 26 => ⟨S_, .i32⟩
  | 27 => ⟨S10000x10000, .i32⟩
  | 28 => ⟨S10000x10000, .i32⟩
  | 29 => ⟨S_, .i32⟩
  | 30 => ⟨S10000x10000, .i32⟩
  | 31 => ⟨S10000x10000, .i32⟩
  | 32 => ⟨S10000x10000, .i32⟩
  | 33 => ⟨S10000x10000, .i32⟩
  | 34 => ⟨S10000x10000, .i32⟩
  | 35 => ⟨S_, .i32⟩
  | 36 => ⟨S10000x10000, .i32⟩
  | 37 => ⟨S10000x10000, .i32⟩
  | 38 => ⟨S_, .i32⟩
  | 39 => ⟨S10000x10000, .i32⟩
  | 40 => ⟨S10000x10000, .i32⟩
  | 41 => ⟨S10000x10000, .i32⟩
  | 42 => ⟨S10000x10000, .i32⟩
  | 43 => ⟨S10000x10000, .i32⟩
  | 44 => ⟨S10000x10000, .i32⟩
  | 45 => ⟨S10000x10000, .i32⟩
  | 46 => ⟨S10000x10000, .i32⟩
  | 47 => ⟨S_, .i32⟩
  | 48 => ⟨S10000x10000, .i32⟩
  | 49 => ⟨S10000x10000, .i32⟩
  | 50 => ⟨S10000x10000, .i32⟩
  | 51 => ⟨S_, .i32⟩
  | 52 => ⟨S10000x10000, .i32⟩
  | 53 => ⟨S10000x10000, .i32⟩
  | 54 => ⟨S_, .i32⟩
  | 55 => ⟨S10000x10000, .i32⟩
  | 56 => ⟨S10000x10000, .i32⟩
  | 57 => ⟨S10000x10000, .i32⟩
  | 58 => ⟨S10000x10000, .i32⟩
  | 59 => ⟨S10000x10000, .i32⟩
  | 60 => ⟨S_, .i32⟩
  | 61 => ⟨S10000x10000, .i32⟩
  | 62 => ⟨S10000x10000, .i32⟩
  | 63 => ⟨S_, .i32⟩
  | 64 => ⟨S10000x10000, .i32⟩
  | 65 => ⟨S10000x10000, .i32⟩
  | 66 => ⟨S10000x10000, .i32⟩
  | 67 => ⟨S10000x10000, .i32⟩
  | 68 => ⟨S10000x10000, .i32⟩
  | 69 => ⟨S_, .i32⟩
  | 70 => ⟨S10000x10000, .i32⟩
  | 71 => ⟨S10000x10000, .i32⟩
  | 72 => ⟨S_, .i32⟩
  | 73 => ⟨S10000x10000, .i32⟩
  | 74 => ⟨S10000x10000, .i32⟩
  | 75 => ⟨S10000x10000, .i32⟩
  | 76 => ⟨S10000x10000, .i32⟩
  | 77 => ⟨S10000x10000, .i32⟩
  | 78 => ⟨S_, .i32⟩
  | 79 => ⟨S10000x10000, .i32⟩
  | 80 => ⟨S10000x10000, .i32⟩
  | 81 => ⟨S_, .i32⟩
  | 82 => ⟨S10000x10000, .i32⟩
  | 83 => ⟨S10000x10000, .i32⟩
  | 84 => ⟨S10000x10000, .i32⟩
  | 85 => ⟨S10000x10000, .i32⟩
  | 86 => ⟨S10000x10000, .i32⟩
  | 87 => ⟨S10000x10000, .i32⟩
  | 88 => ⟨S10000x10000, .i32⟩
  | 89 => ⟨S10000x10000, .i32⟩
  | 90 => ⟨S_, .i32⟩
  | 91 => ⟨S10000x10000, .i32⟩
  | 92 => ⟨S10000x10000, .i32⟩
  | 93 => ⟨S10000x10000, .i32⟩
  | 94 => ⟨S_, .i32⟩
  | 95 => ⟨S10000x10000, .i32⟩
  | 96 => ⟨S10000x10000, .i32⟩
  | 97 => ⟨S_, .i32⟩
  | 98 => ⟨S10000x10000, .i32⟩
  | 99 => ⟨S10000x10000, .i32⟩
  | 100 => ⟨S10000x10000, .i32⟩
  | 101 => ⟨S10000x10000, .i32⟩
  | 102 => ⟨S10000x10000, .i32⟩
  | 103 => ⟨S_, .i32⟩
  | 104 => ⟨S10000x10000, .i32⟩
  | 105 => ⟨S10000x10000, .i32⟩
  | 106 => ⟨S_, .i32⟩
  | 107 => ⟨S10000x10000, .i32⟩
  | 108 => ⟨S10000x10000, .i32⟩
  | 109 => ⟨S10000x10000, .i32⟩
  | 110 => ⟨S10000x10000, .i32⟩
  | 111 => ⟨S10000x10000, .i32⟩
  | 112 => ⟨S_, .i32⟩
  | 113 => ⟨S10000x10000, .i32⟩
  | 114 => ⟨S10000x10000, .i32⟩
  | 115 => ⟨S_, .i32⟩
  | 116 => ⟨S10000x10000, .i32⟩
  | 117 => ⟨S10000x10000, .i32⟩
  | 118 => ⟨S10000x10000, .i32⟩
  | 119 => ⟨S10000x10000, .i32⟩
  | 120 => ⟨S10000x10000, .i32⟩
  | 121 => ⟨S_, .i32⟩
  | 122 => ⟨S10000x10000, .i32⟩
  | 123 => ⟨S10000x10000, .i32⟩
  | 124 => ⟨S_, .i32⟩
  | 125 => ⟨S10000x10000, .i32⟩
  | 126 => ⟨S10000x10000, .i32⟩
  | 127 => ⟨S10000x10000, .i32⟩
  | _ => ⟨S10000x64, .f32⟩

abbrev hbmTy0_4 (i : Nat) : BufTy := match i % 128 with
  | 0 => ⟨S10000x10000, .i32⟩
  | 1 => ⟨S10000x10000, .i32⟩
  | 2 => ⟨S10000x10000, .i32⟩
  | 3 => ⟨S10000x10000, .i32⟩
  | 4 => ⟨S10000x10000, .i32⟩
  | 5 => ⟨S_, .i32⟩
  | 6 => ⟨S10000x10000, .i32⟩
  | 7 => ⟨S10000x10000, .i32⟩
  | 8 => ⟨S10000x10000, .i32⟩
  | 9 => ⟨S_, .i32⟩
  | 10 => ⟨S10000x10000, .i32⟩
  | 11 => ⟨S10000x10000, .i32⟩
  | 12 => ⟨S_, .i32⟩
  | 13 => ⟨S10000x10000, .i32⟩
  | 14 => ⟨S10000x10000, .i32⟩
  | 15 => ⟨S10000x10000, .f32⟩
  | 16 => ⟨S_, .f32⟩
  | 17 => ⟨S10000x10000, .f32⟩
  | 18 => ⟨S10000x10000, .f32⟩
  | 19 => ⟨S1x1, .f32⟩
  | 20 => ⟨S10000x10000, .f32⟩
  | 21 => ⟨S10000x10000, .f32⟩
  | 22 => ⟨S10000x10000, .f32⟩
  | 23 => ⟨S10000x10000, .f32⟩
  | 24 => ⟨S10000x10000, .f32⟩
  | 25 => ⟨S10000x10000, .f32⟩
  | 26 => ⟨S_, .f32⟩
  | 27 => ⟨S10000x10000, .f32⟩
  | 28 => ⟨S10000x10000, .f32⟩
  | 29 => ⟨S10000x10000, .f32⟩
  | 30 => ⟨S10000x20, .f32⟩
  | 31 => ⟨S10000x20, .i32⟩
  | 32 => ⟨S10000, .i32⟩
  | 33 => ⟨S10000x1, .i32⟩
  | 34 => ⟨S_, .f32⟩
  | 35 => ⟨S10000x10000, .f32⟩
  | 36 => ⟨S_, .i32⟩
  | 37 => ⟨S10000x1, .i32⟩
  | 38 => ⟨S10000x1, .i1⟩
  | 39 => ⟨S_, .i32⟩
  | 40 => ⟨S10000x1, .i32⟩
  | 41 => ⟨S10000x1, .i32⟩
  | 42 => ⟨S10000x1, .i32⟩
  | 43 => ⟨S_, .i32⟩
  | 44 => ⟨S10000x20, .i32⟩
  | 45 => ⟨S10000x20, .i1⟩
  | 46 => ⟨S_, .i32⟩
  | 47 => ⟨S10000x20, .i32⟩
  | 48 => ⟨S10000x20, .i32⟩
  | 49 => ⟨S10000x20, .i32⟩
  | 50 => ⟨S10000x20, .i32⟩
  | 51 => ⟨S10000x20x1, .i32⟩
  | 52 => ⟨S10000x20x1, .i32⟩
  | 53 => ⟨S10000x20x2, .i32⟩
  | 54 => ⟨S_, .f32⟩
  | 55 => ⟨S10000x20, .f32⟩
  | 56 => ⟨S10000x10000, .f32⟩
  | 57 => ⟨S10000x10000, .f32⟩
  | 58 => ⟨S1x10000x10000, .f32⟩
  | 59 => ⟨S1x1x10000x10000, .f32⟩
  | _ => ⟨S10000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x64, .f32⟩

abbrev bufTy : (tb : Table) → Fin (tcTables nBuf tb) → BufTy
  | .hbm, ⟨i, _⟩ => hbmTy i
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_v18 : Ref sig .tc := ⟨.hbm, 26, rfl⟩
abbrev main_c : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_call0_v0 : Ref sig .tc := ⟨.hbm, 51, rfl⟩
abbrev main_call1_call0_c : Ref sig .tc := ⟨.hbm, 52, rfl⟩
abbrev main_call1_call0_v1 : Ref sig .tc := ⟨.hbm, 53, rfl⟩
abbrev main_call1_call0_v2 : Ref sig .tc := ⟨.hbm, 54, rfl⟩
abbrev main_call1_call0_v3 : Ref sig .tc := ⟨.hbm, 55, rfl⟩
abbrev main_call1_call0_v4 : Ref sig .tc := ⟨.hbm, 56, rfl⟩
abbrev main_call1_call0_v5 : Ref sig .tc := ⟨.hbm, 57, rfl⟩
abbrev main_call1_call0_v6 : Ref sig .tc := ⟨.hbm, 58, rfl⟩
abbrev main_call1_call0_c_0 : Ref sig .tc := ⟨.hbm, 59, rfl⟩
abbrev main_call1_call0_v7 : Ref sig .tc := ⟨.hbm, 60, rfl⟩
abbrev main_call1_call0_v8 : Ref sig .tc := ⟨.hbm, 61, rfl⟩
abbrev main_call1_call0_c_1 : Ref sig .tc := ⟨.hbm, 62, rfl⟩
abbrev main_call1_call0_v9 : Ref sig .tc := ⟨.hbm, 63, rfl⟩
abbrev main_call1_call0_v10 : Ref sig .tc := ⟨.hbm, 64, rfl⟩
abbrev main_call1_call0_v11 : Ref sig .tc := ⟨.hbm, 65, rfl⟩
abbrev main_call1_call0_v12 : Ref sig .tc := ⟨.hbm, 66, rfl⟩
abbrev main_call1_call0_v13 : Ref sig .tc := ⟨.hbm, 67, rfl⟩
abbrev main_call1_call0_c_2 : Ref sig .tc := ⟨.hbm, 68, rfl⟩
abbrev main_call1_call0_v14 : Ref sig .tc := ⟨.hbm, 69, rfl⟩
abbrev main_call1_call0_v15 : Ref sig .tc := ⟨.hbm, 70, rfl⟩
abbrev main_call1_call0_c_3 : Ref sig .tc := ⟨.hbm, 71, rfl⟩
abbrev main_call1_call0_v16 : Ref sig .tc := ⟨.hbm, 72, rfl⟩
abbrev main_call1_call0_v17 : Ref sig .tc := ⟨.hbm, 73, rfl⟩
abbrev main_call1_call0_v18 : Ref sig .tc := ⟨.hbm, 74, rfl⟩
abbrev main_call1_call0_v19 : Ref sig .tc := ⟨.hbm, 75, rfl⟩
abbrev main_call1_call0_v20 : Ref sig .tc := ⟨.hbm, 76, rfl⟩
abbrev main_call1_call0_c_4 : Ref sig .tc := ⟨.hbm, 77, rfl⟩
abbrev main_call1_call0_v21 : Ref sig .tc := ⟨.hbm, 78, rfl⟩
abbrev main_call1_call0_v22 : Ref sig .tc := ⟨.hbm, 79, rfl⟩
abbrev main_call1_call0_c_5 : Ref sig .tc := ⟨.hbm, 80, rfl⟩
abbrev main_call1_call0_v23 : Ref sig .tc := ⟨.hbm, 81, rfl⟩
abbrev main_call1_call0_v24 : Ref sig .tc := ⟨.hbm, 82, rfl⟩
abbrev main_call1_call0_v25 : Ref sig .tc := ⟨.hbm, 83, rfl⟩
abbrev main_call1_call0_v26 : Ref sig .tc := ⟨.hbm, 84, rfl⟩
abbrev main_call1_call0_v27 : Ref sig .tc := ⟨.hbm, 85, rfl⟩
abbrev main_call1_call0_c_6 : Ref sig .tc := ⟨.hbm, 86, rfl⟩
abbrev main_call1_call0_v28 : Ref sig .tc := ⟨.hbm, 87, rfl⟩
abbrev main_call1_call0_v29 : Ref sig .tc := ⟨.hbm, 88, rfl⟩
abbrev main_call1_call0_c_7 : Ref sig .tc := ⟨.hbm, 89, rfl⟩
abbrev main_call1_call0_v30 : Ref sig .tc := ⟨.hbm, 90, rfl⟩
abbrev main_call1_call0_v31 : Ref sig .tc := ⟨.hbm, 91, rfl⟩
abbrev main_call1_call0_v32 : Ref sig .tc := ⟨.hbm, 92, rfl⟩
abbrev main_call1_call0_v33 : Ref sig .tc := ⟨.hbm, 93, rfl⟩
abbrev main_call1_call0_v34 : Ref sig .tc := ⟨.hbm, 94, rfl⟩
abbrev main_call1_call0_v35 : Ref sig .tc := ⟨.hbm, 95, rfl⟩
abbrev main_call1_call0_v36 : Ref sig .tc := ⟨.hbm, 96, rfl⟩
abbrev main_call1_call0_v37 : Ref sig .tc := ⟨.hbm, 97, rfl⟩
abbrev main_call1_call0_c_8 : Ref sig .tc := ⟨.hbm, 98, rfl⟩
abbrev main_call1_call0_v38 : Ref sig .tc := ⟨.hbm, 99, rfl⟩
abbrev main_call1_call0_v39 : Ref sig .tc := ⟨.hbm, 100, rfl⟩
abbrev main_call1_call0_v40 : Ref sig .tc := ⟨.hbm, 101, rfl⟩
abbrev main_call1_call0_c_9 : Ref sig .tc := ⟨.hbm, 102, rfl⟩
abbrev main_call1_call0_v41 : Ref sig .tc := ⟨.hbm, 103, rfl⟩
abbrev main_call1_call0_v42 : Ref sig .tc := ⟨.hbm, 104, rfl⟩
abbrev main_call1_call0_c_10 : Ref sig .tc := ⟨.hbm, 105, rfl⟩
abbrev main_call1_call0_v43 : Ref sig .tc := ⟨.hbm, 106, rfl⟩
abbrev main_call1_call0_v44 : Ref sig .tc := ⟨.hbm, 107, rfl⟩
abbrev main_call1_call0_v45 : Ref sig .tc := ⟨.hbm, 108, rfl⟩
abbrev main_call1_call0_v46 : Ref sig .tc := ⟨.hbm, 109, rfl⟩
abbrev main_call1_call0_v47 : Ref sig .tc := ⟨.hbm, 110, rfl⟩
abbrev main_call1_call0_c_11 : Ref sig .tc := ⟨.hbm, 111, rfl⟩
abbrev main_call1_call0_v48 : Ref sig .tc := ⟨.hbm, 112, rfl⟩
abbrev main_call1_call0_v49 : Ref sig .tc := ⟨.hbm, 113, rfl⟩
abbrev main_call1_call0_c_12 : Ref sig .tc := ⟨.hbm, 114, rfl⟩
abbrev main_call1_call0_v50 : Ref sig .tc := ⟨.hbm, 115, rfl⟩
abbrev main_call1_call0_v51 : Ref sig .tc := ⟨.hbm, 116, rfl⟩
abbrev main_call1_call0_v52 : Ref sig .tc := ⟨.hbm, 117, rfl⟩
abbrev main_call1_call0_v53 : Ref sig .tc := ⟨.hbm, 118, rfl⟩
abbrev main_call1_call0_v54 : Ref sig .tc := ⟨.hbm, 119, rfl⟩
abbrev main_call1_call0_c_13 : Ref sig .tc := ⟨.hbm, 120, rfl⟩
abbrev main_call1_call0_v55 : Ref sig .tc := ⟨.hbm, 121, rfl⟩
abbrev main_call1_call0_v56 : Ref sig .tc := ⟨.hbm, 122, rfl⟩
abbrev main_call1_call0_c_14 : Ref sig .tc := ⟨.hbm, 123, rfl⟩
abbrev main_call1_call0_v57 : Ref sig .tc := ⟨.hbm, 124, rfl⟩
abbrev main_call1_call0_v58 : Ref sig .tc := ⟨.hbm, 125, rfl⟩
abbrev main_call1_call0_v59 : Ref sig .tc := ⟨.hbm, 126, rfl⟩
abbrev main_call1_call0_v60 : Ref sig .tc := ⟨.hbm, 127, rfl⟩
abbrev main_call1_call0_v61 : Ref sig .tc := ⟨.hbm, 128, rfl⟩
abbrev main_call1_call0_c_15 : Ref sig .tc := ⟨.hbm, 129, rfl⟩
abbrev main_call1_call0_v62 : Ref sig .tc := ⟨.hbm, 130, rfl⟩
abbrev main_call1_call0_v63 : Ref sig .tc := ⟨.hbm, 131, rfl⟩
abbrev main_call1_call0_c_16 : Ref sig .tc := ⟨.hbm, 132, rfl⟩
abbrev main_call1_call0_v64 : Ref sig .tc := ⟨.hbm, 133, rfl⟩
abbrev main_call1_call0_v65 : Ref sig .tc := ⟨.hbm, 134, rfl⟩
abbrev main_call1_call0_v66 : Ref sig .tc := ⟨.hbm, 135, rfl⟩
abbrev main_call1_call0_v67 : Ref sig .tc := ⟨.hbm, 136, rfl⟩
abbrev main_call1_call0_v68 : Ref sig .tc := ⟨.hbm, 137, rfl⟩
abbrev main_call1_call0_v69 : Ref sig .tc := ⟨.hbm, 138, rfl⟩
abbrev main_call1_call0_v70 : Ref sig .tc := ⟨.hbm, 139, rfl⟩
abbrev main_call1_call0_v71 : Ref sig .tc := ⟨.hbm, 140, rfl⟩
abbrev main_call1_call0_c_17 : Ref sig .tc := ⟨.hbm, 141, rfl⟩
abbrev main_call1_call0_v72 : Ref sig .tc := ⟨.hbm, 142, rfl⟩
abbrev main_call1_call0_v73 : Ref sig .tc := ⟨.hbm, 143, rfl⟩
abbrev main_call1_call0_v74 : Ref sig .tc := ⟨.hbm, 144, rfl⟩
abbrev main_call1_call0_c_18 : Ref sig .tc := ⟨.hbm, 145, rfl⟩
abbrev main_call1_call0_v75 : Ref sig .tc := ⟨.hbm, 146, rfl⟩
abbrev main_call1_call0_v76 : Ref sig .tc := ⟨.hbm, 147, rfl⟩
abbrev main_call1_call0_c_19 : Ref sig .tc := ⟨.hbm, 148, rfl⟩
abbrev main_call1_call0_v77 : Ref sig .tc := ⟨.hbm, 149, rfl⟩
abbrev main_call1_call0_v78 : Ref sig .tc := ⟨.hbm, 150, rfl⟩
abbrev main_call1_call0_v79 : Ref sig .tc := ⟨.hbm, 151, rfl⟩
abbrev main_call1_call0_v80 : Ref sig .tc := ⟨.hbm, 152, rfl⟩
abbrev main_call1_call0_v81 : Ref sig .tc := ⟨.hbm, 153, rfl⟩
abbrev main_call1_call0_c_20 : Ref sig .tc := ⟨.hbm, 154, rfl⟩
abbrev main_call1_call0_v82 : Ref sig .tc := ⟨.hbm, 155, rfl⟩
abbrev main_call1_call0_v83 : Ref sig .tc := ⟨.hbm, 156, rfl⟩
abbrev main_call1_call0_c_21 : Ref sig .tc := ⟨.hbm, 157, rfl⟩
abbrev main_call1_call0_v84 : Ref sig .tc := ⟨.hbm, 158, rfl⟩
abbrev main_call1_call0_v85 : Ref sig .tc := ⟨.hbm, 159, rfl⟩
abbrev main_call1_call0_v86 : Ref sig .tc := ⟨.hbm, 160, rfl⟩
abbrev main_call1_call0_v87 : Ref sig .tc := ⟨.hbm, 161, rfl⟩
abbrev main_call1_call0_v88 : Ref sig .tc := ⟨.hbm, 162, rfl⟩
abbrev main_call1_call0_c_22 : Ref sig .tc := ⟨.hbm, 163, rfl⟩
abbrev main_call1_call0_v89 : Ref sig .tc := ⟨.hbm, 164, rfl⟩
abbrev main_call1_call0_v90 : Ref sig .tc := ⟨.hbm, 165, rfl⟩
abbrev main_call1_call0_c_23 : Ref sig .tc := ⟨.hbm, 166, rfl⟩
abbrev main_call1_call0_v91 : Ref sig .tc := ⟨.hbm, 167, rfl⟩
abbrev main_call1_call0_v92 : Ref sig .tc := ⟨.hbm, 168, rfl⟩
abbrev main_call1_call0_v93 : Ref sig .tc := ⟨.hbm, 169, rfl⟩
abbrev main_call1_call0_v94 : Ref sig .tc := ⟨.hbm, 170, rfl⟩
abbrev main_call1_call0_v95 : Ref sig .tc := ⟨.hbm, 171, rfl⟩
abbrev main_call1_call0_c_24 : Ref sig .tc := ⟨.hbm, 172, rfl⟩
abbrev main_call1_call0_v96 : Ref sig .tc := ⟨.hbm, 173, rfl⟩
abbrev main_call1_call0_v97 : Ref sig .tc := ⟨.hbm, 174, rfl⟩
abbrev main_call1_call0_c_25 : Ref sig .tc := ⟨.hbm, 175, rfl⟩
abbrev main_call1_call0_v98 : Ref sig .tc := ⟨.hbm, 176, rfl⟩
abbrev main_call1_call0_v99 : Ref sig .tc := ⟨.hbm, 177, rfl⟩
abbrev main_call1_call0_v100 : Ref sig .tc := ⟨.hbm, 178, rfl⟩
abbrev main_call1_call0_v101 : Ref sig .tc := ⟨.hbm, 179, rfl⟩
abbrev main_call1_call0_v102 : Ref sig .tc := ⟨.hbm, 180, rfl⟩
abbrev main_call1_call0_v103 : Ref sig .tc := ⟨.hbm, 181, rfl⟩
abbrev main_call1_call0_v104 : Ref sig .tc := ⟨.hbm, 182, rfl⟩
abbrev main_call1_call0_v105 : Ref sig .tc := ⟨.hbm, 183, rfl⟩
abbrev main_call1_call0_c_26 : Ref sig .tc := ⟨.hbm, 184, rfl⟩
abbrev main_call1_call0_v106 : Ref sig .tc := ⟨.hbm, 185, rfl⟩
abbrev main_call1_call0_v107 : Ref sig .tc := ⟨.hbm, 186, rfl⟩
abbrev main_call1_call0_v108 : Ref sig .tc := ⟨.hbm, 187, rfl⟩
abbrev main_call1_call0_c_27 : Ref sig .tc := ⟨.hbm, 188, rfl⟩
abbrev main_call1_call0_v109 : Ref sig .tc := ⟨.hbm, 189, rfl⟩
abbrev main_call1_call0_v110 : Ref sig .tc := ⟨.hbm, 190, rfl⟩
abbrev main_call1_call0_c_28 : Ref sig .tc := ⟨.hbm, 191, rfl⟩
abbrev main_call1_call0_v111 : Ref sig .tc := ⟨.hbm, 192, rfl⟩
abbrev main_call1_call0_v112 : Ref sig .tc := ⟨.hbm, 193, rfl⟩
abbrev main_call1_call0_v113 : Ref sig .tc := ⟨.hbm, 194, rfl⟩
abbrev main_call1_call0_v114 : Ref sig .tc := ⟨.hbm, 195, rfl⟩
abbrev main_call1_call0_v115 : Ref sig .tc := ⟨.hbm, 196, rfl⟩
abbrev main_call1_call0_c_29 : Ref sig .tc := ⟨.hbm, 197, rfl⟩
abbrev main_call1_call0_v116 : Ref sig .tc := ⟨.hbm, 198, rfl⟩
abbrev main_call1_call0_v117 : Ref sig .tc := ⟨.hbm, 199, rfl⟩
abbrev main_call1_call0_c_30 : Ref sig .tc := ⟨.hbm, 200, rfl⟩
abbrev main_call1_call0_v118 : Ref sig .tc := ⟨.hbm, 201, rfl⟩
abbrev main_call1_call0_v119 : Ref sig .tc := ⟨.hbm, 202, rfl⟩
abbrev main_call1_call0_v120 : Ref sig .tc := ⟨.hbm, 203, rfl⟩
abbrev main_call1_call0_v121 : Ref sig .tc := ⟨.hbm, 204, rfl⟩
abbrev main_call1_call0_v122 : Ref sig .tc := ⟨.hbm, 205, rfl⟩
abbrev main_call1_call0_c_31 : Ref sig .tc := ⟨.hbm, 206, rfl⟩
abbrev main_call1_call0_v123 : Ref sig .tc := ⟨.hbm, 207, rfl⟩
abbrev main_call1_call0_v124 : Ref sig .tc := ⟨.hbm, 208, rfl⟩
abbrev main_call1_call0_c_32 : Ref sig .tc := ⟨.hbm, 209, rfl⟩
abbrev main_call1_call0_v125 : Ref sig .tc := ⟨.hbm, 210, rfl⟩
abbrev main_call1_call0_v126 : Ref sig .tc := ⟨.hbm, 211, rfl⟩
abbrev main_call1_call0_v127 : Ref sig .tc := ⟨.hbm, 212, rfl⟩
abbrev main_call1_call0_v128 : Ref sig .tc := ⟨.hbm, 213, rfl⟩
abbrev main_call1_call0_v129 : Ref sig .tc := ⟨.hbm, 214, rfl⟩
abbrev main_call1_call0_c_33 : Ref sig .tc := ⟨.hbm, 215, rfl⟩
abbrev main_call1_call0_v130 : Ref sig .tc := ⟨.hbm, 216, rfl⟩
abbrev main_call1_call0_v131 : Ref sig .tc := ⟨.hbm, 217, rfl⟩
abbrev main_call1_call0_c_34 : Ref sig .tc := ⟨.hbm, 218, rfl⟩
abbrev main_call1_call0_v132 : Ref sig .tc := ⟨.hbm, 219, rfl⟩
abbrev main_call1_call0_v133 : Ref sig .tc := ⟨.hbm, 220, rfl⟩
abbrev main_call1_call0_v134 : Ref sig .tc := ⟨.hbm, 221, rfl⟩
abbrev main_call1_call0_v135 : Ref sig .tc := ⟨.hbm, 222, rfl⟩
abbrev main_call1_call0_v136 : Ref sig .tc := ⟨.hbm, 223, rfl⟩
abbrev main_call1_call0_v137 : Ref sig .tc := ⟨.hbm, 224, rfl⟩
abbrev main_call1_call0_v138 : Ref sig .tc := ⟨.hbm, 225, rfl⟩
abbrev main_call1_call0_v139 : Ref sig .tc := ⟨.hbm, 226, rfl⟩
abbrev main_call1_call0_c_35 : Ref sig .tc := ⟨.hbm, 227, rfl⟩
abbrev main_call1_call0_v140 : Ref sig .tc := ⟨.hbm, 228, rfl⟩
abbrev main_call1_call0_v141 : Ref sig .tc := ⟨.hbm, 229, rfl⟩
abbrev main_call1_call0_v142 : Ref sig .tc := ⟨.hbm, 230, rfl⟩
abbrev main_call1_call0_c_36 : Ref sig .tc := ⟨.hbm, 231, rfl⟩
abbrev main_call1_call0_v143 : Ref sig .tc := ⟨.hbm, 232, rfl⟩
abbrev main_call1_call0_v144 : Ref sig .tc := ⟨.hbm, 233, rfl⟩
abbrev main_call1_call0_c_37 : Ref sig .tc := ⟨.hbm, 234, rfl⟩
abbrev main_call1_call0_v145 : Ref sig .tc := ⟨.hbm, 235, rfl⟩
abbrev main_call1_call0_v146 : Ref sig .tc := ⟨.hbm, 236, rfl⟩
abbrev main_call1_call0_v147 : Ref sig .tc := ⟨.hbm, 237, rfl⟩
abbrev main_call1_call0_v148 : Ref sig .tc := ⟨.hbm, 238, rfl⟩
abbrev main_call1_call0_v149 : Ref sig .tc := ⟨.hbm, 239, rfl⟩
abbrev main_call1_call0_c_38 : Ref sig .tc := ⟨.hbm, 240, rfl⟩
abbrev main_call1_call0_v150 : Ref sig .tc := ⟨.hbm, 241, rfl⟩
abbrev main_call1_call0_v151 : Ref sig .tc := ⟨.hbm, 242, rfl⟩
abbrev main_call1_call0_c_39 : Ref sig .tc := ⟨.hbm, 243, rfl⟩
abbrev main_call1_call0_v152 : Ref sig .tc := ⟨.hbm, 244, rfl⟩
abbrev main_call1_call0_v153 : Ref sig .tc := ⟨.hbm, 245, rfl⟩
abbrev main_call1_call0_v154 : Ref sig .tc := ⟨.hbm, 246, rfl⟩
abbrev main_call1_call0_v155 : Ref sig .tc := ⟨.hbm, 247, rfl⟩
abbrev main_call1_call0_v156 : Ref sig .tc := ⟨.hbm, 248, rfl⟩
abbrev main_call1_call0_c_40 : Ref sig .tc := ⟨.hbm, 249, rfl⟩
abbrev main_call1_call0_v157 : Ref sig .tc := ⟨.hbm, 250, rfl⟩
abbrev main_call1_call0_v158 : Ref sig .tc := ⟨.hbm, 251, rfl⟩
abbrev main_call1_call0_c_41 : Ref sig .tc := ⟨.hbm, 252, rfl⟩
abbrev main_call1_call0_v159 : Ref sig .tc := ⟨.hbm, 253, rfl⟩
abbrev main_call1_call0_v160 : Ref sig .tc := ⟨.hbm, 254, rfl⟩
abbrev main_call1_call0_v161 : Ref sig .tc := ⟨.hbm, 255, rfl⟩
abbrev main_call1_call0_v162 : Ref sig .tc := ⟨.hbm, 256, rfl⟩
abbrev main_call1_call0_v163 : Ref sig .tc := ⟨.hbm, 257, rfl⟩
abbrev main_call1_call0_c_42 : Ref sig .tc := ⟨.hbm, 258, rfl⟩
abbrev main_call1_call0_v164 : Ref sig .tc := ⟨.hbm, 259, rfl⟩
abbrev main_call1_call0_v165 : Ref sig .tc := ⟨.hbm, 260, rfl⟩
abbrev main_call1_call0_c_43 : Ref sig .tc := ⟨.hbm, 261, rfl⟩
abbrev main_call1_call0_v166 : Ref sig .tc := ⟨.hbm, 262, rfl⟩
abbrev main_call1_call0_v167 : Ref sig .tc := ⟨.hbm, 263, rfl⟩
abbrev main_call1_call0_v168 : Ref sig .tc := ⟨.hbm, 264, rfl⟩
abbrev main_call1_call0_v169 : Ref sig .tc := ⟨.hbm, 265, rfl⟩
abbrev main_call1_call0_v170 : Ref sig .tc := ⟨.hbm, 266, rfl⟩
abbrev main_call1_v11_0 : Ref sig .tc := ⟨.hbm, 267, rfl⟩
abbrev main_call1_call0_v172 : Ref sig .tc := ⟨.hbm, 268, rfl⟩
abbrev main_call1_call0_v173 : Ref sig .tc := ⟨.hbm, 269, rfl⟩
abbrev main_call1_call0_c_44 : Ref sig .tc := ⟨.hbm, 270, rfl⟩
abbrev main_call1_call0_v174 : Ref sig .tc := ⟨.hbm, 271, rfl⟩
abbrev main_call1_v11_1 : Ref sig .tc := ⟨.hbm, 272, rfl⟩
abbrev main_v26 : Ref sig .tc := ⟨.hbm, 273, rfl⟩
abbrev main_cst_5 : Ref sig .tc := ⟨.hbm, 274, rfl⟩
abbrev main_cst_6 : Ref sig .tc := ⟨.hbm, 275, rfl⟩
abbrev main_call2_v0 : Ref sig .tc := ⟨.hbm, 276, rfl⟩
abbrev main_call2_v1 : Ref sig .tc := ⟨.hbm, 277, rfl⟩
abbrev main_call2_v2 : Ref sig .tc := ⟨.hbm, 278, rfl⟩
abbrev main_call2_v3 : Ref sig .tc := ⟨.hbm, 279, rfl⟩
abbrev main_call2_v4 : Ref sig .tc := ⟨.hbm, 280, rfl⟩
abbrev main_call2_v5 : Ref sig .tc := ⟨.hbm, 281, rfl⟩
abbrev main_call2_v6 : Ref sig .tc := ⟨.hbm, 282, rfl⟩
abbrev main_call2_v7 : Ref sig .tc := ⟨.hbm, 283, rfl⟩
abbrev main_call2_v8 : Ref sig .tc := ⟨.hbm, 284, rfl⟩
abbrev main_call2_v9 : Ref sig .tc := ⟨.hbm, 285, rfl⟩
abbrev main_call2_c : Ref sig .tc := ⟨.hbm, 286, rfl⟩
abbrev main_call2_v10 : Ref sig .tc := ⟨.hbm, 287, rfl⟩
abbrev main_call2_v11 : Ref sig .tc := ⟨.hbm, 288, rfl⟩
abbrev main_call2_c_0 : Ref sig .tc := ⟨.hbm, 289, rfl⟩
abbrev main_call2_v12 : Ref sig .tc := ⟨.hbm, 290, rfl⟩
abbrev main_call2_v13 : Ref sig .tc := ⟨.hbm, 291, rfl⟩
abbrev main_call2_v14 : Ref sig .tc := ⟨.hbm, 292, rfl⟩
abbrev main_call2_c_1 : Ref sig .tc := ⟨.hbm, 293, rfl⟩
abbrev main_call2_v15 : Ref sig .tc := ⟨.hbm, 294, rfl⟩
abbrev main_call2_v16 : Ref sig .tc := ⟨.hbm, 295, rfl⟩
abbrev main_call2_v17 : Ref sig .tc := ⟨.hbm, 296, rfl⟩
abbrev main_call2_v18 : Ref sig .tc := ⟨.hbm, 297, rfl⟩
abbrev main_call2_call0_v0 : Ref sig .tc := ⟨.hbm, 298, rfl⟩
abbrev main_call2_call0_c : Ref sig .tc := ⟨.hbm, 299, rfl⟩
abbrev main_call2_call0_v1 : Ref sig .tc := ⟨.hbm, 300, rfl⟩
abbrev main_call2_call0_v2 : Ref sig .tc := ⟨.hbm, 301, rfl⟩
abbrev main_call2_call0_v3 : Ref sig .tc := ⟨.hbm, 302, rfl⟩
abbrev main_call2_call0_v4 : Ref sig .tc := ⟨.hbm, 303, rfl⟩
abbrev main_call2_call0_v5 : Ref sig .tc := ⟨.hbm, 304, rfl⟩
abbrev main_call2_call0_v6 : Ref sig .tc := ⟨.hbm, 305, rfl⟩
abbrev main_call2_call0_c_0 : Ref sig .tc := ⟨.hbm, 306, rfl⟩
abbrev main_call2_call0_v7 : Ref sig .tc := ⟨.hbm, 307, rfl⟩
abbrev main_call2_call0_v8 : Ref sig .tc := ⟨.hbm, 308, rfl⟩
abbrev main_call2_call0_c_1 : Ref sig .tc := ⟨.hbm, 309, rfl⟩
abbrev main_call2_call0_v9 : Ref sig .tc := ⟨.hbm, 310, rfl⟩
abbrev main_call2_call0_v10 : Ref sig .tc := ⟨.hbm, 311, rfl⟩
abbrev main_call2_call0_v11 : Ref sig .tc := ⟨.hbm, 312, rfl⟩
abbrev main_call2_call0_v12 : Ref sig .tc := ⟨.hbm, 313, rfl⟩
abbrev main_call2_call0_v13 : Ref sig .tc := ⟨.hbm, 314, rfl⟩
abbrev main_call2_call0_c_2 : Ref sig .tc := ⟨.hbm, 315, rfl⟩
abbrev main_call2_call0_v14 : Ref sig .tc := ⟨.hbm, 316, rfl⟩
abbrev main_call2_call0_v15 : Ref sig .tc := ⟨.hbm, 317, rfl⟩
abbrev main_call2_call0_c_3 : Ref sig .tc := ⟨.hbm, 318, rfl⟩
abbrev main_call2_call0_v16 : Ref sig .tc := ⟨.hbm, 319, rfl⟩
abbrev main_call2_call0_v17 : Ref sig .tc := ⟨.hbm, 320, rfl⟩
abbrev main_call2_call0_v18 : Ref sig .tc := ⟨.hbm, 321, rfl⟩
abbrev main_call2_call0_v19 : Ref sig .tc := ⟨.hbm, 322, rfl⟩
abbrev main_call2_call0_v20 : Ref sig .tc := ⟨.hbm, 323, rfl⟩
abbrev main_call2_call0_c_4 : Ref sig .tc := ⟨.hbm, 324, rfl⟩
abbrev main_call2_call0_v21 : Ref sig .tc := ⟨.hbm, 325, rfl⟩
abbrev main_call2_call0_v22 : Ref sig .tc := ⟨.hbm, 326, rfl⟩
abbrev main_call2_call0_c_5 : Ref sig .tc := ⟨.hbm, 327, rfl⟩
abbrev main_call2_call0_v23 : Ref sig .tc := ⟨.hbm, 328, rfl⟩
abbrev main_call2_call0_v24 : Ref sig .tc := ⟨.hbm, 329, rfl⟩
abbrev main_call2_call0_v25 : Ref sig .tc := ⟨.hbm, 330, rfl⟩
abbrev main_call2_call0_v26 : Ref sig .tc := ⟨.hbm, 331, rfl⟩
abbrev main_call2_call0_v27 : Ref sig .tc := ⟨.hbm, 332, rfl⟩
abbrev main_call2_call0_c_6 : Ref sig .tc := ⟨.hbm, 333, rfl⟩
abbrev main_call2_call0_v28 : Ref sig .tc := ⟨.hbm, 334, rfl⟩
abbrev main_call2_call0_v29 : Ref sig .tc := ⟨.hbm, 335, rfl⟩
abbrev main_call2_call0_c_7 : Ref sig .tc := ⟨.hbm, 336, rfl⟩
abbrev main_call2_call0_v30 : Ref sig .tc := ⟨.hbm, 337, rfl⟩
abbrev main_call2_call0_v31 : Ref sig .tc := ⟨.hbm, 338, rfl⟩
abbrev main_call2_call0_v32 : Ref sig .tc := ⟨.hbm, 339, rfl⟩
abbrev main_call2_call0_v33 : Ref sig .tc := ⟨.hbm, 340, rfl⟩
abbrev main_call2_call0_v34 : Ref sig .tc := ⟨.hbm, 341, rfl⟩
abbrev main_call2_call0_v35 : Ref sig .tc := ⟨.hbm, 342, rfl⟩
abbrev main_call2_call0_v36 : Ref sig .tc := ⟨.hbm, 343, rfl⟩
abbrev main_call2_call0_v37 : Ref sig .tc := ⟨.hbm, 344, rfl⟩
abbrev main_call2_call0_c_8 : Ref sig .tc := ⟨.hbm, 345, rfl⟩
abbrev main_call2_call0_v38 : Ref sig .tc := ⟨.hbm, 346, rfl⟩
abbrev main_call2_call0_v39 : Ref sig .tc := ⟨.hbm, 347, rfl⟩
abbrev main_call2_call0_v40 : Ref sig .tc := ⟨.hbm, 348, rfl⟩
abbrev main_call2_call0_c_9 : Ref sig .tc := ⟨.hbm, 349, rfl⟩
abbrev main_call2_call0_v41 : Ref sig .tc := ⟨.hbm, 350, rfl⟩
abbrev main_call2_call0_v42 : Ref sig .tc := ⟨.hbm, 351, rfl⟩
abbrev main_call2_call0_c_10 : Ref sig .tc := ⟨.hbm, 352, rfl⟩
abbrev main_call2_call0_v43 : Ref sig .tc := ⟨.hbm, 353, rfl⟩
abbrev main_call2_call0_v44 : Ref sig .tc := ⟨.hbm, 354, rfl⟩
abbrev main_call2_call0_v45 : Ref sig .tc := ⟨.hbm, 355, rfl⟩
abbrev main_call2_call0_v46 : Ref sig .tc := ⟨.hbm, 356, rfl⟩
abbrev main_call2_call0_v47 : Ref sig .tc := ⟨.hbm, 357, rfl⟩
abbrev main_call2_call0_c_11 : Ref sig .tc := ⟨.hbm, 358, rfl⟩
abbrev main_call2_call0_v48 : Ref sig .tc := ⟨.hbm, 359, rfl⟩
abbrev main_call2_call0_v49 : Ref sig .tc := ⟨.hbm, 360, rfl⟩
abbrev main_call2_call0_c_12 : Ref sig .tc := ⟨.hbm, 361, rfl⟩
abbrev main_call2_call0_v50 : Ref sig .tc := ⟨.hbm, 362, rfl⟩
abbrev main_call2_call0_v51 : Ref sig .tc := ⟨.hbm, 363, rfl⟩
abbrev main_call2_call0_v52 : Ref sig .tc := ⟨.hbm, 364, rfl⟩
abbrev main_call2_call0_v53 : Ref sig .tc := ⟨.hbm, 365, rfl⟩
abbrev main_call2_call0_v54 : Ref sig .tc := ⟨.hbm, 366, rfl⟩
abbrev main_call2_call0_c_13 : Ref sig .tc := ⟨.hbm, 367, rfl⟩
abbrev main_call2_call0_v55 : Ref sig .tc := ⟨.hbm, 368, rfl⟩
abbrev main_call2_call0_v56 : Ref sig .tc := ⟨.hbm, 369, rfl⟩
abbrev main_call2_call0_c_14 : Ref sig .tc := ⟨.hbm, 370, rfl⟩
abbrev main_call2_call0_v57 : Ref sig .tc := ⟨.hbm, 371, rfl⟩
abbrev main_call2_call0_v58 : Ref sig .tc := ⟨.hbm, 372, rfl⟩
abbrev main_call2_call0_v59 : Ref sig .tc := ⟨.hbm, 373, rfl⟩
abbrev main_call2_call0_v60 : Ref sig .tc := ⟨.hbm, 374, rfl⟩
abbrev main_call2_call0_v61 : Ref sig .tc := ⟨.hbm, 375, rfl⟩
abbrev main_call2_call0_c_15 : Ref sig .tc := ⟨.hbm, 376, rfl⟩
abbrev main_call2_call0_v62 : Ref sig .tc := ⟨.hbm, 377, rfl⟩
abbrev main_call2_call0_v63 : Ref sig .tc := ⟨.hbm, 378, rfl⟩
abbrev main_call2_call0_c_16 : Ref sig .tc := ⟨.hbm, 379, rfl⟩
abbrev main_call2_call0_v64 : Ref sig .tc := ⟨.hbm, 380, rfl⟩
abbrev main_call2_call0_v65 : Ref sig .tc := ⟨.hbm, 381, rfl⟩
abbrev main_call2_call0_v66 : Ref sig .tc := ⟨.hbm, 382, rfl⟩
abbrev main_call2_call0_v67 : Ref sig .tc := ⟨.hbm, 383, rfl⟩
abbrev main_call2_call0_v68 : Ref sig .tc := ⟨.hbm, 384, rfl⟩
abbrev main_call2_call0_v69 : Ref sig .tc := ⟨.hbm, 385, rfl⟩
abbrev main_call2_call0_v70 : Ref sig .tc := ⟨.hbm, 386, rfl⟩
abbrev main_call2_call0_v71 : Ref sig .tc := ⟨.hbm, 387, rfl⟩
abbrev main_call2_call0_c_17 : Ref sig .tc := ⟨.hbm, 388, rfl⟩
abbrev main_call2_call0_v72 : Ref sig .tc := ⟨.hbm, 389, rfl⟩
abbrev main_call2_call0_v73 : Ref sig .tc := ⟨.hbm, 390, rfl⟩
abbrev main_call2_call0_v74 : Ref sig .tc := ⟨.hbm, 391, rfl⟩
abbrev main_call2_call0_c_18 : Ref sig .tc := ⟨.hbm, 392, rfl⟩
abbrev main_call2_call0_v75 : Ref sig .tc := ⟨.hbm, 393, rfl⟩
abbrev main_call2_call0_v76 : Ref sig .tc := ⟨.hbm, 394, rfl⟩
abbrev main_call2_call0_c_19 : Ref sig .tc := ⟨.hbm, 395, rfl⟩
abbrev main_call2_call0_v77 : Ref sig .tc := ⟨.hbm, 396, rfl⟩
abbrev main_call2_call0_v78 : Ref sig .tc := ⟨.hbm, 397, rfl⟩
abbrev main_call2_call0_v79 : Ref sig .tc := ⟨.hbm, 398, rfl⟩
abbrev main_call2_call0_v80 : Ref sig .tc := ⟨.hbm, 399, rfl⟩
abbrev main_call2_call0_v81 : Ref sig .tc := ⟨.hbm, 400, rfl⟩
abbrev main_call2_call0_c_20 : Ref sig .tc := ⟨.hbm, 401, rfl⟩
abbrev main_call2_call0_v82 : Ref sig .tc := ⟨.hbm, 402, rfl⟩
abbrev main_call2_call0_v83 : Ref sig .tc := ⟨.hbm, 403, rfl⟩
abbrev main_call2_call0_c_21 : Ref sig .tc := ⟨.hbm, 404, rfl⟩
abbrev main_call2_call0_v84 : Ref sig .tc := ⟨.hbm, 405, rfl⟩
abbrev main_call2_call0_v85 : Ref sig .tc := ⟨.hbm, 406, rfl⟩
abbrev main_call2_call0_v86 : Ref sig .tc := ⟨.hbm, 407, rfl⟩
abbrev main_call2_call0_v87 : Ref sig .tc := ⟨.hbm, 408, rfl⟩
abbrev main_call2_call0_v88 : Ref sig .tc := ⟨.hbm, 409, rfl⟩
abbrev main_call2_call0_c_22 : Ref sig .tc := ⟨.hbm, 410, rfl⟩
abbrev main_call2_call0_v89 : Ref sig .tc := ⟨.hbm, 411, rfl⟩
abbrev main_call2_call0_v90 : Ref sig .tc := ⟨.hbm, 412, rfl⟩
abbrev main_call2_call0_c_23 : Ref sig .tc := ⟨.hbm, 413, rfl⟩
abbrev main_call2_call0_v91 : Ref sig .tc := ⟨.hbm, 414, rfl⟩
abbrev main_call2_call0_v92 : Ref sig .tc := ⟨.hbm, 415, rfl⟩
abbrev main_call2_call0_v93 : Ref sig .tc := ⟨.hbm, 416, rfl⟩
abbrev main_call2_call0_v94 : Ref sig .tc := ⟨.hbm, 417, rfl⟩
abbrev main_call2_call0_v95 : Ref sig .tc := ⟨.hbm, 418, rfl⟩
abbrev main_call2_call0_c_24 : Ref sig .tc := ⟨.hbm, 419, rfl⟩
abbrev main_call2_call0_v96 : Ref sig .tc := ⟨.hbm, 420, rfl⟩
abbrev main_call2_call0_v97 : Ref sig .tc := ⟨.hbm, 421, rfl⟩
abbrev main_call2_call0_c_25 : Ref sig .tc := ⟨.hbm, 422, rfl⟩
abbrev main_call2_call0_v98 : Ref sig .tc := ⟨.hbm, 423, rfl⟩
abbrev main_call2_call0_v99 : Ref sig .tc := ⟨.hbm, 424, rfl⟩
abbrev main_call2_call0_v100 : Ref sig .tc := ⟨.hbm, 425, rfl⟩
abbrev main_call2_call0_v101 : Ref sig .tc := ⟨.hbm, 426, rfl⟩
abbrev main_call2_call0_v102 : Ref sig .tc := ⟨.hbm, 427, rfl⟩
abbrev main_call2_call0_v103 : Ref sig .tc := ⟨.hbm, 428, rfl⟩
abbrev main_call2_call0_v104 : Ref sig .tc := ⟨.hbm, 429, rfl⟩
abbrev main_call2_call0_v105 : Ref sig .tc := ⟨.hbm, 430, rfl⟩
abbrev main_call2_call0_c_26 : Ref sig .tc := ⟨.hbm, 431, rfl⟩
abbrev main_call2_call0_v106 : Ref sig .tc := ⟨.hbm, 432, rfl⟩
abbrev main_call2_call0_v107 : Ref sig .tc := ⟨.hbm, 433, rfl⟩
abbrev main_call2_call0_v108 : Ref sig .tc := ⟨.hbm, 434, rfl⟩
abbrev main_call2_call0_c_27 : Ref sig .tc := ⟨.hbm, 435, rfl⟩
abbrev main_call2_call0_v109 : Ref sig .tc := ⟨.hbm, 436, rfl⟩
abbrev main_call2_call0_v110 : Ref sig .tc := ⟨.hbm, 437, rfl⟩
abbrev main_call2_call0_c_28 : Ref sig .tc := ⟨.hbm, 438, rfl⟩
abbrev main_call2_call0_v111 : Ref sig .tc := ⟨.hbm, 439, rfl⟩
abbrev main_call2_call0_v112 : Ref sig .tc := ⟨.hbm, 440, rfl⟩
abbrev main_call2_call0_v113 : Ref sig .tc := ⟨.hbm, 441, rfl⟩
abbrev main_call2_call0_v114 : Ref sig .tc := ⟨.hbm, 442, rfl⟩
abbrev main_call2_call0_v115 : Ref sig .tc := ⟨.hbm, 443, rfl⟩
abbrev main_call2_call0_c_29 : Ref sig .tc := ⟨.hbm, 444, rfl⟩
abbrev main_call2_call0_v116 : Ref sig .tc := ⟨.hbm, 445, rfl⟩
abbrev main_call2_call0_v117 : Ref sig .tc := ⟨.hbm, 446, rfl⟩
abbrev main_call2_call0_c_30 : Ref sig .tc := ⟨.hbm, 447, rfl⟩
abbrev main_call2_call0_v118 : Ref sig .tc := ⟨.hbm, 448, rfl⟩
abbrev main_call2_call0_v119 : Ref sig .tc := ⟨.hbm, 449, rfl⟩
abbrev main_call2_call0_v120 : Ref sig .tc := ⟨.hbm, 450, rfl⟩
abbrev main_call2_call0_v121 : Ref sig .tc := ⟨.hbm, 451, rfl⟩
abbrev main_call2_call0_v122 : Ref sig .tc := ⟨.hbm, 452, rfl⟩
abbrev main_call2_call0_c_31 : Ref sig .tc := ⟨.hbm, 453, rfl⟩
abbrev main_call2_call0_v123 : Ref sig .tc := ⟨.hbm, 454, rfl⟩
abbrev main_call2_call0_v124 : Ref sig .tc := ⟨.hbm, 455, rfl⟩
abbrev main_call2_call0_c_32 : Ref sig .tc := ⟨.hbm, 456, rfl⟩
abbrev main_call2_call0_v125 : Ref sig .tc := ⟨.hbm, 457, rfl⟩
abbrev main_call2_call0_v126 : Ref sig .tc := ⟨.hbm, 458, rfl⟩
abbrev main_call2_call0_v127 : Ref sig .tc := ⟨.hbm, 459, rfl⟩
abbrev main_call2_call0_v128 : Ref sig .tc := ⟨.hbm, 460, rfl⟩
abbrev main_call2_call0_v129 : Ref sig .tc := ⟨.hbm, 461, rfl⟩
abbrev main_call2_call0_c_33 : Ref sig .tc := ⟨.hbm, 462, rfl⟩
abbrev main_call2_call0_v130 : Ref sig .tc := ⟨.hbm, 463, rfl⟩
abbrev main_call2_call0_v131 : Ref sig .tc := ⟨.hbm, 464, rfl⟩
abbrev main_call2_call0_c_34 : Ref sig .tc := ⟨.hbm, 465, rfl⟩
abbrev main_call2_call0_v132 : Ref sig .tc := ⟨.hbm, 466, rfl⟩
abbrev main_call2_call0_v133 : Ref sig .tc := ⟨.hbm, 467, rfl⟩
abbrev main_call2_call0_v134 : Ref sig .tc := ⟨.hbm, 468, rfl⟩
abbrev main_call2_call0_v135 : Ref sig .tc := ⟨.hbm, 469, rfl⟩
abbrev main_call2_call0_v136 : Ref sig .tc := ⟨.hbm, 470, rfl⟩
abbrev main_call2_call0_v137 : Ref sig .tc := ⟨.hbm, 471, rfl⟩
abbrev main_call2_call0_v138 : Ref sig .tc := ⟨.hbm, 472, rfl⟩
abbrev main_call2_call0_v139 : Ref sig .tc := ⟨.hbm, 473, rfl⟩
abbrev main_call2_call0_c_35 : Ref sig .tc := ⟨.hbm, 474, rfl⟩
abbrev main_call2_call0_v140 : Ref sig .tc := ⟨.hbm, 475, rfl⟩
abbrev main_call2_call0_v141 : Ref sig .tc := ⟨.hbm, 476, rfl⟩
abbrev main_call2_call0_v142 : Ref sig .tc := ⟨.hbm, 477, rfl⟩
abbrev main_call2_call0_c_36 : Ref sig .tc := ⟨.hbm, 478, rfl⟩
abbrev main_call2_call0_v143 : Ref sig .tc := ⟨.hbm, 479, rfl⟩
abbrev main_call2_call0_v144 : Ref sig .tc := ⟨.hbm, 480, rfl⟩
abbrev main_call2_call0_c_37 : Ref sig .tc := ⟨.hbm, 481, rfl⟩
abbrev main_call2_call0_v145 : Ref sig .tc := ⟨.hbm, 482, rfl⟩
abbrev main_call2_call0_v146 : Ref sig .tc := ⟨.hbm, 483, rfl⟩
abbrev main_call2_call0_v147 : Ref sig .tc := ⟨.hbm, 484, rfl⟩
abbrev main_call2_call0_v148 : Ref sig .tc := ⟨.hbm, 485, rfl⟩
abbrev main_call2_call0_v149 : Ref sig .tc := ⟨.hbm, 486, rfl⟩
abbrev main_call2_call0_c_38 : Ref sig .tc := ⟨.hbm, 487, rfl⟩
abbrev main_call2_call0_v150 : Ref sig .tc := ⟨.hbm, 488, rfl⟩
abbrev main_call2_call0_v151 : Ref sig .tc := ⟨.hbm, 489, rfl⟩
abbrev main_call2_call0_c_39 : Ref sig .tc := ⟨.hbm, 490, rfl⟩
abbrev main_call2_call0_v152 : Ref sig .tc := ⟨.hbm, 491, rfl⟩
abbrev main_call2_call0_v153 : Ref sig .tc := ⟨.hbm, 492, rfl⟩
abbrev main_call2_call0_v154 : Ref sig .tc := ⟨.hbm, 493, rfl⟩
abbrev main_call2_call0_v155 : Ref sig .tc := ⟨.hbm, 494, rfl⟩
abbrev main_call2_call0_v156 : Ref sig .tc := ⟨.hbm, 495, rfl⟩
abbrev main_call2_call0_c_40 : Ref sig .tc := ⟨.hbm, 496, rfl⟩
abbrev main_call2_call0_v157 : Ref sig .tc := ⟨.hbm, 497, rfl⟩
abbrev main_call2_call0_v158 : Ref sig .tc := ⟨.hbm, 498, rfl⟩
abbrev main_call2_call0_c_41 : Ref sig .tc := ⟨.hbm, 499, rfl⟩
abbrev main_call2_call0_v159 : Ref sig .tc := ⟨.hbm, 500, rfl⟩
abbrev main_call2_call0_v160 : Ref sig .tc := ⟨.hbm, 501, rfl⟩
abbrev main_call2_call0_v161 : Ref sig .tc := ⟨.hbm, 502, rfl⟩
abbrev main_call2_call0_v162 : Ref sig .tc := ⟨.hbm, 503, rfl⟩
abbrev main_call2_call0_v163 : Ref sig .tc := ⟨.hbm, 504, rfl⟩
abbrev main_call2_call0_c_42 : Ref sig .tc := ⟨.hbm, 505, rfl⟩
abbrev main_call2_call0_v164 : Ref sig .tc := ⟨.hbm, 506, rfl⟩
abbrev main_call2_call0_v165 : Ref sig .tc := ⟨.hbm, 507, rfl⟩
abbrev main_call2_call0_c_43 : Ref sig .tc := ⟨.hbm, 508, rfl⟩
abbrev main_call2_call0_v166 : Ref sig .tc := ⟨.hbm, 509, rfl⟩
abbrev main_call2_call0_v167 : Ref sig .tc := ⟨.hbm, 510, rfl⟩
abbrev main_call2_call0_v168 : Ref sig .tc := ⟨.hbm, 511, rfl⟩
abbrev main_call2_call0_v169 : Ref sig .tc := ⟨.hbm, 512, rfl⟩
abbrev main_call2_call0_v170 : Ref sig .tc := ⟨.hbm, 513, rfl⟩
abbrev main_call2_v19_0 : Ref sig .tc := ⟨.hbm, 514, rfl⟩
abbrev main_call2_call0_v172 : Ref sig .tc := ⟨.hbm, 515, rfl⟩
abbrev main_call2_call0_v173 : Ref sig .tc := ⟨.hbm, 516, rfl⟩
abbrev main_call2_call0_c_44 : Ref sig .tc := ⟨.hbm, 517, rfl⟩
abbrev main_call2_call0_v174 : Ref sig .tc := ⟨.hbm, 518, rfl⟩
abbrev main_call2_v19_1 : Ref sig .tc := ⟨.hbm, 519, rfl⟩
abbrev main_call2_v20 : Ref sig .tc := ⟨.hbm, 520, rfl⟩
abbrev main_call2_c_2 : Ref sig .tc := ⟨.hbm, 521, rfl⟩
abbrev main_call2_v21 : Ref sig .tc := ⟨.hbm, 522, rfl⟩
abbrev main_call2_v22 : Ref sig .tc := ⟨.hbm, 523, rfl⟩
abbrev main_call2_c_3 : Ref sig .tc := ⟨.hbm, 524, rfl⟩
abbrev main_call2_v23 : Ref sig .tc := ⟨.hbm, 525, rfl⟩
abbrev main_call2_v24 : Ref sig .tc := ⟨.hbm, 526, rfl⟩
abbrev main_call2_v25 : Ref sig .tc := ⟨.hbm, 527, rfl⟩
abbrev main_call2_cst : Ref sig .tc := ⟨.hbm, 528, rfl⟩
abbrev main_call2_v26 : Ref sig .tc := ⟨.hbm, 529, rfl⟩
abbrev main_call2_v27 : Ref sig .tc := ⟨.hbm, 530, rfl⟩
abbrev main_call2_v28 : Ref sig .tc := ⟨.hbm, 531, rfl⟩
abbrev main_call2_v29 : Ref sig .tc := ⟨.hbm, 532, rfl⟩
abbrev main_call2_v30 : Ref sig .tc := ⟨.hbm, 533, rfl⟩
abbrev main_call2_v31 : Ref sig .tc := ⟨.hbm, 534, rfl⟩
abbrev main_call2_v32 : Ref sig .tc := ⟨.hbm, 535, rfl⟩
abbrev main_call2_v33 : Ref sig .tc := ⟨.hbm, 536, rfl⟩
abbrev main_v27 : Ref sig .tc := ⟨.hbm, 537, rfl⟩
abbrev main_cst_7 : Ref sig .tc := ⟨.hbm, 538, rfl⟩
abbrev main_v28 : Ref sig .tc := ⟨.hbm, 539, rfl⟩
abbrev main_v29 : Ref sig .tc := ⟨.hbm, 540, rfl⟩
abbrev main_v30 : Ref sig .tc := ⟨.hbm, 541, rfl⟩
abbrev main_values : Ref sig .tc := ⟨.hbm, 542, rfl⟩
abbrev main_indices : Ref sig .tc := ⟨.hbm, 543, rfl⟩
abbrev main_v31 : Ref sig .tc := ⟨.hbm, 544, rfl⟩
abbrev main_v32 : Ref sig .tc := ⟨.hbm, 545, rfl⟩
abbrev main_cst_8 : Ref sig .tc := ⟨.hbm, 546, rfl⟩
abbrev main_v33 : Ref sig .tc := ⟨.hbm, 547, rfl⟩
abbrev main_c_9 : Ref sig .tc := ⟨.hbm, 548, rfl⟩
abbrev main_v34 : Ref sig .tc := ⟨.hbm, 549, rfl⟩
abbrev main_v35 : Ref sig .tc := ⟨.hbm, 550, rfl⟩
abbrev main_c_10 : Ref sig .tc := ⟨.hbm, 551, rfl⟩
abbrev main_v36 : Ref sig .tc := ⟨.hbm, 552, rfl⟩
abbrev main_v37 : Ref sig .tc := ⟨.hbm, 553, rfl⟩
abbrev main_v38 : Ref sig .tc := ⟨.hbm, 554, rfl⟩
abbrev main_c_11 : Ref sig .tc := ⟨.hbm, 555, rfl⟩
abbrev main_v39 : Ref sig .tc := ⟨.hbm, 556, rfl⟩
abbrev main_v40 : Ref sig .tc := ⟨.hbm, 557, rfl⟩
abbrev main_c_12 : Ref sig .tc := ⟨.hbm, 558, rfl⟩
abbrev main_v41 : Ref sig .tc := ⟨.hbm, 559, rfl⟩
abbrev main_v42 : Ref sig .tc := ⟨.hbm, 560, rfl⟩
abbrev main_v43 : Ref sig .tc := ⟨.hbm, 561, rfl⟩
abbrev main_v44 : Ref sig .tc := ⟨.hbm, 562, rfl⟩
abbrev main_v45 : Ref sig .tc := ⟨.hbm, 563, rfl⟩
abbrev main_v46 : Ref sig .tc := ⟨.hbm, 564, rfl⟩
abbrev main_v47 : Ref sig .tc := ⟨.hbm, 565, rfl⟩
abbrev main_cst_13 : Ref sig .tc := ⟨.hbm, 566, rfl⟩
abbrev main_v48 : Ref sig .tc := ⟨.hbm, 567, rfl⟩
abbrev main_v49 : Ref sig .tc := ⟨.hbm, 568, rfl⟩
abbrev main_v50 : Ref sig .tc := ⟨.hbm, 569, rfl⟩
abbrev main_v51 : Ref sig .tc := ⟨.hbm, 570, rfl⟩
abbrev main_v52 : Ref sig .tc := ⟨.hbm, 571, rfl⟩

abbrev nD : Nat := 1
abbrev τ : Topo := Topo.v7x

variable {F : FTy → Type} [FloatOps F]
-- ==== Proof.Lines.lean ====
/- A straight line of host operations in which every buffer is written once, before it is read: the contents at its end
   satisfy one equation per operation, each between the final contents of the buffers.

   `Good` collects what the run of such a line needs (its operations, in an order in which each writes a buffer of a later index
   than all before it and than all it reads); `Lines` collects the equations, and is closed under the ways a printed program is
   put together, so that a function of the program is read once, for any buffers. -/
module

public import Idealize.ShloMosaic.Lib.StableHlo.RunHlo

@[expose] public section

noncomputable section

namespace Cert.Proof

open Idealize.ShloMosaic Idealize.ShloMosaic.StableHlo Idealize.SL.Sem

variable {nD : Nat} {τ : Topo} {sig : RefSig} {Val : EltTy → Type} {Λ : Labels}

/-- The contents of a typed buffer. -/
def rd {T : BufTy} (x : TRef sig T) (W : Valuation τ sig Val) : T.Contents Val := x.ofBuf (W (Proc.devRef .tc x.ref))

/-- The operation's equation between contents: each buffer it writes holds its result of these same contents. -/
def Holds (op : HloOp τ sig Val) (W : Valuation τ sig Val) : Prop := ∀ b ∈ op.writes, W b = op.result W b

/-- The operation writes the one buffer `y`, and its result there depends only on buffers of smaller index. -/
structure WritesOnly (op : HloOp τ sig Val) (y : Ref sig .tc) : Prop where
  writes : op.writes = {Proc.devRef (τ := τ) .tc y}
  fresh : op.fresh = ∅
  bufs : op.bufs ⊆ tcRefs τ sig
  reads : ∀ F G : Valuation τ sig Val, (∀ r : Ref sig .tc, r.idx.val < y.idx.val → F (Proc.devRef .tc r) = G (Proc.devRef .tc r)) →
    op.result F (Proc.devRef .tc y) = op.result G (Proc.devRef .tc y)

/-- A line of such operations, the buffers they write of increasing index from `n` on. -/
inductive Ssa : ℕ → List (HloOp τ sig Val) → Prop
  | nil (n : ℕ) : Ssa n []
  | cons {n : ℕ} {op : HloOp τ sig Val} {ops : List (HloOp τ sig Val)} (y : Ref sig .tc) (h : WritesOnly op y)
      (hn : n ≤ y.idx.val) (hs : Ssa (y.idx.val + 1) ops) : Ssa n (op :: ops)

/-- Such a line from a later index on is one from an earlier index on. -/
theorem Ssa.mono {n m : ℕ} {ops : List (HloOp τ sig Val)} (hnm : n ≤ m) (h : Ssa m ops) : Ssa n ops := by
  cases h with
  | nil => exact .nil n
  | cons y h hn hs => exact .cons y h (hnm.trans hn) hs

/-- Such a line leaves the buffers of smaller index as they were. -/
theorem Ssa.keep {n : ℕ} {ops : List (HloOp τ sig Val)} (h : Ssa n ops) (V : Valuation τ sig Val) {r : Ref sig .tc}
    (hr : r.idx.val < n) : after ops V (Proc.devRef .tc r) = V (Proc.devRef .tc r) := by
  induction h generalizing V with
  | nil => rfl
  | @cons n op ops y h hn hs ih =>
    rw [after_cons, ih _ (by omega)]
    exact result_of_writes_ne op V y r h.writes (by rintro rfl; omega)

/-- At the end of such a line every operation's equation holds. -/
theorem Ssa.holds {n : ℕ} {ops : List (HloOp τ sig Val)} (h : Ssa n ops) (V : Valuation τ sig Val) :
    ∀ op ∈ ops, Holds op (after ops V) := by
  induction h generalizing V with
  | nil => intro op h; cases h
  | @cons n op ops y h hn hs ih =>
    intro op' hop
    rcases List.mem_cons.mp hop with rfl | hop
    · intro b hb
      rw [h.writes, Finset.mem_singleton] at hb
      subst hb
      rw [after_cons, hs.keep _ (Nat.lt_succ_self _)]
      refine h.reads _ _ fun r hr => ?_
      rw [hs.keep _ (by omega)]
      exact (result_of_writes_ne _ V y r h.writes (by rintro rfl; omega)).symm
    · exact ih _ op' hop

/-- Such a line touches the buffers of the core only. -/
theorem Ssa.bufs {n : ℕ} {ops : List (HloOp τ sig Val)} (h : Ssa n ops) : ops.Forall fun op => op.bufs ⊆ tcRefs τ sig := by
  induction h with
  | nil => trivial
  | cons y h hn hs ih => exact List.forall_cons _ _ _ |>.mpr ⟨h.bufs, ih⟩

/-- No operation of such a line allocates a buffer. -/
theorem Ssa.fresh {n : ℕ} {ops : List (HloOp τ sig Val)} (h : Ssa n ops) : ∀ op ∈ ops, op.fresh = ∅ := by
  induction h with
  | nil => intro op h; cases h
  | cons y h hn hs ih =>
    intro op hop
    rcases List.mem_cons.mp hop with rfl | hop
    · exact h.fresh
    · exact ih op hop

/-! ## The builders -/

section Builders

variable (x a b c y : Ref sig .tc)

/-- A constant writes its result only. -/
theorem wo_nullary (v : y.ty.Contents Val) (hy) : WritesOnly (nullary (τ := τ) y v hy) y :=
  ⟨rfl, rfl, by simp, fun F G _ => by rw [nullary_result, nullary_result]⟩

/-- An operation on one operand of smaller index writes its result only. -/
theorem wo_unary (f : x.ty.Contents Val → y.ty.Contents Val) (hx hy) (h : x.idx.val < y.idx.val) :
    WritesOnly (unary (τ := τ) x y f hx hy) y :=
  ⟨rfl, rfl, by simp, fun F G e => by rw [unary_result, unary_result, e x h]⟩

/-- An operation on two operands of smaller index writes its result only. -/
theorem wo_binary (f : a.ty.Contents Val → b.ty.Contents Val → y.ty.Contents Val) (ha hb hy)
    (h : a.idx.val < y.idx.val) (h' : b.idx.val < y.idx.val) : WritesOnly (binary (τ := τ) a b y f ha hb hy) y :=
  ⟨rfl, rfl, by simp, fun F G e => by rw [binary_result, binary_result, e a h, e b h']⟩

/-- An operation on three operands of smaller index writes its result only. -/
theorem wo_ternary (f : c.ty.Contents Val → a.ty.Contents Val → b.ty.Contents Val → y.ty.Contents Val) (hc ha hb hy)
    (h : c.idx.val < y.idx.val) (h' : a.idx.val < y.idx.val) (h'' : b.idx.val < y.idx.val) :
    WritesOnly (ternary (τ := τ) c a b y f hc ha hb hy) y :=
  ⟨rfl, rfl, by simp, fun F G e => by rw [ternary_result, ternary_result, e c h, e a h', e b h'']⟩

/-- A reshape of an operand of smaller index writes its result only. -/
theorem wo_reshape (he hn hx hy) (h : x.idx.val < y.idx.val) :
    WritesOnly (reshape (τ := τ) (Val := Val) x y he hn hx hy) y :=
  ⟨rfl, rfl, by simp, fun F G e => by rw [reshape_result, reshape_result, e x h]⟩

end Builders

/-! ## Programs that are such lines -/

/-- Two straight programs, one after the other, are the straight program of both lists. -/
theorem isSeq_append {p q : Prog (TpuEff nD τ sig Val Λ .tc) PUnit} {l l' : List (HloOp τ sig Val)}
    (hp : IsSeq p l) (hq : IsSeq q l') : IsSeq (p >>= fun _ => q) (l ++ l') := by
  unfold IsSeq at *; rw [seq_append, hp, hq]

/-- One operation is the straight program of a list of one. -/
theorem IsSeq.single (op : HloOp τ sig Val) :
    IsSeq (hlo rfl op fun _ => .ret ⟨⟩ : Prog (TpuEff nD τ sig Val Λ .tc) PUnit) [op] := rfl

/-- A program is a straight line of one list of operations only. -/
theorem seq_inj (V : Valuation τ sig Val) {l l' : List (HloOp τ sig Val)}
    (h : (seq l : Prog (TpuEff nD τ sig Val Λ .tc) PUnit) = seq l') : l = l' := by
  induction l generalizing l' with
  | nil =>
    cases l' with
    | nil => rfl
    | cons op' l' => rw [seq, seq] at h; injection h
  | cons op l ih =>
    cases l' with
    | nil => rw [seq, seq] at h; injection h
    | cons op' l' =>
      have h' : (Prog.op (.hloBegin rfl op) fun _ => .op (.hloEnd rfl op.writes) fun _ => seq l : Prog (TpuEff nD τ sig Val Λ .tc) PUnit)
          = Prog.op (.hloBegin rfl op') fun _ => .op (.hloEnd rfl op'.writes) fun _ => seq l' := h
      injection h' with h1 h2 h3
      injection h2 with h6
      subst h6
      have h10 := congrFun h3 ⟨⟩
      injection h10 with h11 h12 h13
      exact congrArg _ (ih (congrFun h13 fun b => op.fn (fun b => V b.1) b))

/-- A program that is a straight line writing its buffers in increasing index, from `n` on and below `m`. -/
def Good (n m : ℕ) (p : Prog (TpuEff nD τ sig Val Λ .tc) PUnit) : Prop :=
  ∃ ops : List (HloOp τ sig Val), IsSeq p ops ∧ n ≤ m ∧ ∀ ops', Ssa m ops' → Ssa n (ops ++ ops')

/-- The empty program is a straight line in good order. -/
theorem Good.ret (n : ℕ) : Good n n (pure ⟨⟩ : Prog (TpuEff nD τ sig Val Λ .tc) PUnit) :=
  ⟨[], rfl, le_rfl, fun _ h => h⟩

/-- Two straight lines in good order, the second from where the first ends, are one. -/
theorem Good.bind {n m k : ℕ} {p q : Prog (TpuEff nD τ sig Val Λ .tc) PUnit} (hp : Good n m p) (hq : Good m k q) :
    Good n k (p >>= fun _ => q) := by
  obtain ⟨l, hl, h, hs⟩ := hp
  obtain ⟨l', hl', h', hs'⟩ := hq
  exact ⟨l ++ l', isSeq_append hl hl', h.trans h', fun o ho => by rw [List.append_assoc]; exact hs _ (hs' o ho)⟩

/-- One operation is a straight line in good order. -/
theorem Good.single {n : ℕ} {op : HloOp τ sig Val} {y : Ref sig .tc} (h : WritesOnly op y) (hn : n ≤ y.idx.val) :
    Good n (y.idx.val + 1) (hlo rfl op fun _ => .ret ⟨⟩ : Prog (TpuEff nD τ sig Val Λ .tc) PUnit) :=
  ⟨[op], rfl, by omega, fun o ho => .cons y h hn ho⟩

/-- A program that is a straight line whose operations' equations give `E`. -/
def Lines (p : Prog (TpuEff nD τ sig Val Λ .tc) PUnit) (E : Valuation τ sig Val → Prop) : Prop :=
  ∃ ops : List (HloOp τ sig Val), IsSeq p ops ∧ ∀ W, (∀ op ∈ ops, Holds op W) → E W

/-- A straight line in good order is a line about which nothing is said. -/
theorem Good.lines {n m : ℕ} {p : Prog (TpuEff nD τ sig Val Λ .tc) PUnit} (h : Good n m p) : Lines p fun _ => True := by
  obtain ⟨l, hl, _, _⟩ := h
  exact ⟨l, hl, fun _ _ => trivial⟩

/-- What follows from the equations' consequence follows from the equations. -/
theorem Lines.mono {p : Prog (TpuEff nD τ sig Val Λ .tc) PUnit} {E E' : Valuation τ sig Val → Prop} (h : Lines p E)
    (hE : ∀ W, E W → E' W) : Lines p E' := by
  obtain ⟨l, hl, h⟩ := h
  exact ⟨l, hl, fun W hW => hE W (h W hW)⟩

/-- Of the empty program nothing is said. -/
theorem Lines.ret : Lines (pure ⟨⟩ : Prog (TpuEff nD τ sig Val Λ .tc) PUnit) fun _ => True := ⟨[], rfl, fun _ _ => trivial⟩

/-- Two straight lines, one after the other, give both consequences. -/
theorem Lines.bind {p q : Prog (TpuEff nD τ sig Val Λ .tc) PUnit} {E E' : Valuation τ sig Val → Prop} (hp : Lines p E)
    (hq : Lines q E') : Lines (p >>= fun _ => q) fun W => E W ∧ E' W := by
  obtain ⟨l, hl, h⟩ := hp
  obtain ⟨l', hl', h'⟩ := hq
  exact ⟨l ++ l', isSeq_append hl hl', fun W hW =>
    ⟨h W fun op ho => hW op (List.mem_append_left _ ho), h' W fun op ho => hW op (List.mem_append_right _ ho)⟩⟩

/-- One operation gives what its equation gives. -/
theorem Lines.single {op : HloOp τ sig Val} {E : Valuation τ sig Val → Prop} (h : ∀ W, Holds op W → E W) :
    Lines (hlo rfl op fun _ => .ret ⟨⟩ : Prog (TpuEff nD τ sig Val Λ .tc) PUnit) E :=
  ⟨[op], rfl, fun W hW => h W (hW op (List.mem_singleton_self _))⟩

section Untyped

variable {x a b c y : Ref sig .tc}

/-- After a constant its result holds it. -/
theorem Lines.nullary {v : y.ty.Contents Val} {hy} :
    Lines (hlo rfl (StableHlo.nullary (τ := τ) y v hy) fun _ => .ret ⟨⟩ : Prog (TpuEff nD τ sig Val Λ .tc) PUnit)
      fun W => W (Proc.devRef .tc y) = v :=
  .single fun W h => by rw [h _ (Finset.mem_singleton_self _), nullary_result]

/-- After an operation on one operand the result is the function of the operand. -/
theorem Lines.unary {f : x.ty.Contents Val → y.ty.Contents Val} {hx hy} :
    Lines (hlo rfl (StableHlo.unary (τ := τ) x y f hx hy) fun _ => .ret ⟨⟩ : Prog (TpuEff nD τ sig Val Λ .tc) PUnit)
      fun W => W (Proc.devRef .tc y) = f (W (Proc.devRef .tc x)) :=
  .single fun W h => by rw [h _ (Finset.mem_singleton_self _), unary_result]

/-- After an operation on two operands the result is the function of both. -/
theorem Lines.binary {f : a.ty.Contents Val → b.ty.Contents Val → y.ty.Contents Val} {ha hb hy} :
    Lines (hlo rfl (StableHlo.binary (τ := τ) a b y f ha hb hy) fun _ => .ret ⟨⟩ : Prog (TpuEff nD τ sig Val Λ .tc) PUnit)
      fun W => W (Proc.devRef .tc y) = f (W (Proc.devRef .tc a)) (W (Proc.devRef .tc b)) :=
  .single fun W h => by rw [h _ (Finset.mem_singleton_self _), binary_result]

/-- After an operation on three operands the result is the function of the three. -/
theorem Lines.ternary {f : c.ty.Contents Val → a.ty.Contents Val → b.ty.Contents Val → y.ty.Contents Val} {hc ha hb hy} :
    Lines (hlo rfl (StableHlo.ternary (τ := τ) c a b y f hc ha hb hy) fun _ => .ret ⟨⟩ : Prog (TpuEff nD τ sig Val Λ .tc) PUnit)
      fun W => W (Proc.devRef .tc y) = f (W (Proc.devRef .tc c)) (W (Proc.devRef .tc a)) (W (Proc.devRef .tc b)) :=
  .single fun W h => by rw [h _ (Finset.mem_singleton_self _), ternary_result]

end Untyped

section Typed

variable {Tx Ta Tb Ty : BufTy} {x : TRef sig Tx} {a : TRef sig Ta} {b : TRef sig Tb} {y : TRef sig Ty}

/-- After a constant, at typed references, its result holds it. -/
theorem Lines.tnullary {v : Ty.Contents Val} :
    Lines (hlo rfl (TRef.nullary (τ := τ) y v) fun _ => .ret ⟨⟩ : Prog (TpuEff nD τ sig Val Λ .tc) PUnit)
      fun W => rd y W = v :=
  Lines.nullary.mono fun W h => by rw [rd, h, TRef.ofBuf_toBuf]

/-- After an operation on one operand, at typed references, the result is the function of the operand. -/
theorem Lines.tunary {f : Tx.Contents Val → Ty.Contents Val} :
    Lines (hlo rfl (TRef.unary (τ := τ) x y f) fun _ => .ret ⟨⟩ : Prog (TpuEff nD τ sig Val Λ .tc) PUnit)
      fun W => rd y W = f (rd x W) :=
  Lines.unary.mono fun W h => by rw [rd, h, TRef.ofBuf_toBuf]; rfl

/-- After an operation on two operands, at typed references, the result is the function of both. -/
theorem Lines.tbinary {f : Ta.Contents Val → Tb.Contents Val → Ty.Contents Val} :
    Lines (hlo rfl (TRef.binary (τ := τ) a b y f) fun _ => .ret ⟨⟩ : Prog (TpuEff nD τ sig Val Λ .tc) PUnit)
      fun W => rd y W = f (rd a W) (rd b W) :=
  Lines.binary.mono fun W h => by rw [rd, h, TRef.ofBuf_toBuf]; rfl

/-- After a reshape, at typed references, the result is the operand's cast to the new shape. -/
theorem Lines.treshape {he : Tx.elt = Ty.elt} {hn : Tx.shape.ShapeCasts Ty.shape} :
    Lines (hlo rfl (TRef.reshape (τ := τ) (Val := Val) x y he hn) fun _ => .ret ⟨⟩ : Prog (TpuEff nD τ sig Val Λ .tc) PUnit)
      fun W => rd y W = fun i => he ▸ shapeCast Ty.shape (rd x W) hn i :=
  .single fun W h => by
    obtain ⟨x, rfl, hx, hx'⟩ := x
    obtain ⟨y, rfl, hy, hy'⟩ := y
    rw [rd, h _ (Finset.mem_singleton_self _), reshape_result]
    rfl

end Typed

/-- The run of a program that is such a line: it ends with every buffer at contents that leave the buffers of index below `n` as at
    launch and satisfy the line's equations. -/
theorem run_lines {n m : ℕ} (defs : Defs nD τ sig Val Λ) (main : Dev nD → Prog (TpuEff nD τ sig Val Λ .tc) PUnit)
    {E : Valuation τ sig Val → Prop} (hg : ∀ d, Good n m (main d)) (hl : ∀ d, Lines (main d) E)
    (hR : (Finset.univ.filter fun b : Ref sig .tc => b.isScoped) = ∅)
    (hC : (Finset.univ.filter fun sm : SemLoc sig => sm.isScoped .tc) = ∅)
    (mem : (ℓ : Loc nD τ sig) → Buf Val ℓ) (ρ : Dev nD → PrngReg) :
    θ_run defs (onTc (τ := τ) main) ⟨mem, fun _ => 0, ρ⟩ fun r =>
      ∀ d : Dev nD, ∃ W : Valuation τ sig Val, (∀ b : Ref sig .tc, r.2.mem ((d.tc : Thread nD τ).loc b) = W (Proc.devRef .tc b))
        ∧ (∀ b : Ref sig .tc, b.idx.val < n → W (Proc.devRef .tc b) = mem ((d.tc : Thread nD τ).loc b)) ∧ E W := by
  choose ops hops hnm hs using hg
  have hS : ∀ d, Ssa n (ops d) := fun d => by simpa using hs d [] (.nil m)
  refine θ_run_mono (run_seq hR hC defs main ops hops (fun d => (hS d).bufs) mem ρ (fun d => (hS d).fresh)) ?_
  intro r hr d
  obtain ⟨l, hl, h⟩ := hl d
  have : l = ops d := seq_inj (launchContents mem d) ((show main d = seq l from hl).symm.trans (hops d))
  subst this
  exact ⟨_, hr d, fun b hb => (hS d).keep _ hb, h _ ((hS d).holds _)⟩

end Cert.Proof

end
-- ==== Proof.RefGood.lean ====
/- The reference's program is a straight line that writes each buffer once, before any operation reads it. -/
module

public import proofs.«01_k».proof.ReferenceIdeal
public import proofs.«01_k».proof.Proof.Gen.ReferenceIdeal
public import proofs.«01_k».proof.Proof.Lines
public import Idealize.ShloMosaic.PureOps.Ideal

@[expose] public section

set_option maxRecDepth 16384

noncomputable section

namespace Cert.Proof

open Idealize.ShloMosaic Idealize.ShloMosaic.StableHlo Idealize.SL.Sem Cert.ReferenceIdeal

/-- The rectifier's statements write the buffers 24 to 26 in order. -/
theorem good_relu : Good 24 27 (fn_relu.body (F := Ideal) (.of main_v17) main_call0) := by
  unfold fn_relu.body
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_)

/-- Part 0 of the hash's statements, as main_call1_call0 runs it. -/
theorem good_hash_0 : Good 51 111 (fn_threefry2x32.body_part0 (F := Ideal) (.of main_call1_v6) (.of main_call1_v8) (.of main_call1_v9) (.of main_call1_v10) main_call1_call0) := by
  unfold fn_threefry2x32.body_part0
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | exact Good.single (wo_binary _ _ _ _ _ _ _ (by decide) (by decide)) (by decide))

/-- Part 1 of the hash's statements, as main_call1_call0 runs it. -/
theorem good_hash_1 : Good 111 171 (fn_threefry2x32.body_part1 (F := Ideal) (.of main_call1_v6) (.of main_call1_v8) (.of main_call1_v9) (.of main_call1_v10) main_call1_call0) := by
  unfold fn_threefry2x32.body_part1
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | exact Good.single (wo_binary _ _ _ _ _ _ _ (by decide) (by decide)) (by decide))

/-- Part 2 of the hash's statements, as main_call1_call0 runs it. -/
theorem good_hash_2 : Good 171 231 (fn_threefry2x32.body_part2 (F := Ideal) (.of main_call1_v6) (.of main_call1_v8) (.of main_call1_v9) (.of main_call1_v10) main_call1_call0) := by
  unfold fn_threefry2x32.body_part2
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | exact Good.single (wo_binary _ _ _ _ _ _ _ (by decide) (by decide)) (by decide))

/-- Part 3 of the hash's statements, as main_call1_call0 runs it. -/
theorem good_hash_3 : Good 231 273 (fn_threefry2x32.body_part3 (F := Ideal) (.of main_call1_v6) (.of main_call1_v8) (.of main_call1_v9) (.of main_call1_v10) main_call1_call0) := by
  unfold fn_threefry2x32.body_part3
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | exact Good.single (wo_binary _ _ _ _ _ _ _ (by decide) (by decide)) (by decide))

/-- The hash's statements, as main_call1_call0 runs them. -/
theorem good_hash : Good 51 273 (fn_threefry2x32.body (F := Ideal) (.of main_call1_v6) (.of main_call1_v8) (.of main_call1_v9) (.of main_call1_v10) main_call1_call0) :=
  Good.bind good_hash_0 (Good.bind good_hash_1 (Good.bind good_hash_2 good_hash_3))

/-- The key's statements. -/
theorem good_fold_in : Good 38 274 (fn_threefry_fold_in.body (F := Ideal) (.of main_v25) (.of main_c_4) main_call1) := by
  unfold fn_threefry_fold_in.body
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | refine Good.bind (Good.single (wo_reshape _ _ _ _ _ _ (by decide)) (by decide)) ?_
    | refine Good.bind good_hash ?_)

/-- Part 0 of the hash's statements, as main_call2_call0 runs it. -/
theorem good_hash0_0 : Good 298 358 (fn_threefry2x32_0.body_part0 (F := Ideal) (.of main_call2_v5) (.of main_call2_v7) (.of main_call2_v18) (.of main_call2_v17) main_call2_call0) := by
  unfold fn_threefry2x32_0.body_part0
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | exact Good.single (wo_binary _ _ _ _ _ _ _ (by decide) (by decide)) (by decide))

/-- Part 1 of the hash's statements, as main_call2_call0 runs it. -/
theorem good_hash0_1 : Good 358 418 (fn_threefry2x32_0.body_part1 (F := Ideal) (.of main_call2_v5) (.of main_call2_v7) (.of main_call2_v18) (.of main_call2_v17) main_call2_call0) := by
  unfold fn_threefry2x32_0.body_part1
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | exact Good.single (wo_binary _ _ _ _ _ _ _ (by decide) (by decide)) (by decide))

/-- Part 2 of the hash's statements, as main_call2_call0 runs it. -/
theorem good_hash0_2 : Good 418 478 (fn_threefry2x32_0.body_part2 (F := Ideal) (.of main_call2_v5) (.of main_call2_v7) (.of main_call2_v18) (.of main_call2_v17) main_call2_call0) := by
  unfold fn_threefry2x32_0.body_part2
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | exact Good.single (wo_binary _ _ _ _ _ _ _ (by decide) (by decide)) (by decide))

/-- Part 3 of the hash's statements, as main_call2_call0 runs it. -/
theorem good_hash0_3 : Good 478 520 (fn_threefry2x32_0.body_part3 (F := Ideal) (.of main_call2_v5) (.of main_call2_v7) (.of main_call2_v18) (.of main_call2_v17) main_call2_call0) := by
  unfold fn_threefry2x32_0.body_part3
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | exact Good.single (wo_binary _ _ _ _ _ _ _ (by decide) (by decide)) (by decide))

/-- The hash's statements, as main_call2_call0 runs them. -/
theorem good_hash0 : Good 298 520 (fn_threefry2x32_0.body (F := Ideal) (.of main_call2_v5) (.of main_call2_v7) (.of main_call2_v18) (.of main_call2_v17) main_call2_call0) :=
  Good.bind good_hash0_0 (Good.bind good_hash0_1 (Good.bind good_hash0_2 good_hash0_3))

/-- The noise's statements. -/
theorem good_uniform : Good 276 538 (fn_uniform.body (F := Ideal) (.of main_v26) (.of main_cst_5) (.of main_cst_6) main_call2) := by
  unfold fn_uniform.body
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | refine Good.bind (Good.single (wo_reshape _ _ _ _ _ _ (by decide)) (by decide)) ?_
    | refine Good.bind good_hash0 ?_)

/-- The first sixty statements of the program. -/
theorem good_main0 (d : Dev nD) : Good 3 561 (main_part0 (F := Ideal) d) := by
  unfold main_part0
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | refine Good.bind (Good.single (wo_ternary _ _ _ _ _ _ _ _ _ (by decide) (by decide) (by decide)) (by decide)) ?_
    | refine Good.bind good_relu ?_
    | refine Good.bind good_fold_in ?_
    | refine Good.bind good_uniform ?_
    | exact Good.single (wo_binary _ _ _ _ _ _ _ (by decide) (by decide)) (by decide))

/-- The remaining statements of the program. -/
theorem good_main1 (d : Dev nD) : Good 561 572 (main_part1 (F := Ideal) d) := by
  unfold main_part1
  repeat (first
    | exact Good.ret _
    | refine Good.bind (Good.single (wo_nullary _ _ _) (by decide)) ?_
    | refine Good.bind (Good.single (wo_unary _ _ _ _ _ (by decide)) (by decide)) ?_
    | refine Good.bind (Good.single (wo_binary _ _ _ _ _ _ _ (by decide) (by decide)) (by decide)) ?_
    | refine Good.bind (Good.single (wo_ternary _ _ _ _ _ _ _ _ _ (by decide) (by decide) (by decide)) (by decide)) ?_)

/-- The program writes each buffer behind its three arguments once, in order. -/
theorem good_main (d : Dev nD) : Good 3 572 (main (F := Ideal) d) := Good.bind (good_main0 d) (good_main1 d)

end Cert.Proof

end
-- ==== Proof.RefFrame.lean ====
/- The reference runs, leaves its arguments as they were, and has no semaphore. -/
module

public import proofs.«01_k».proof.Proof.RefGood
public import Idealize.ShloMosaic.Lib.Quiescent

@[expose] public section

set_option maxRecDepth 16384

noncomputable section

namespace Cert.Proof

open Idealize.ShloMosaic Idealize.SL.Sem Cert.ReferenceIdeal

/-- The reference's run, given what its statements' equations yield: it ends with contents that keep the arguments and satisfy it. -/
theorem ref_run {E : Valuation τ sig (Elt Ideal) → Prop} (hl : ∀ d, Lines (main (F := Ideal) d) E)
    (mem : (ℓ : Loc nD τ sig) → Buf (Elt Ideal) ℓ) (ρ : Dev nD → PrngReg) :
    θ_run (defs (F := Ideal)) (onTc (τ := τ) (main (F := Ideal))) ⟨mem, fun _ => 0, ρ⟩ fun r =>
      ∀ d : Dev nD, ∃ W : Valuation τ sig (Elt Ideal),
        (∀ b : Ref sig .tc, r.2.mem ((d.tc : Thread nD τ).loc b) = W (Proc.devRef .tc b))
        ∧ (∀ b : Ref sig .tc, b.idx.val < 3 → W (Proc.devRef .tc b) = mem ((d.tc : Thread nD τ).loc b)) ∧ E W :=
  run_lines defs main good_main hl (by decide +kernel) (by decide +kernel) mem ρ

/-- The reference leaves its three arguments unchanged and every semaphore counter at zero. -/
theorem ref_frame (mem : (ℓ : Loc nD τ sig) → Buf (Elt Ideal) ℓ) (ρ : Dev nD → PrngReg) :
    θ_run (defs (F := Ideal)) (onTc (τ := τ) (main (F := Ideal))) ⟨mem, fun _ => 0, ρ⟩ fun r =>
      (∀ c : Dev nD, r.2.mem ((c.tc : Thread nD τ).loc main_arg0) = mem ((c.tc : Thread nD τ).loc main_arg0)
        ∧ r.2.mem ((c.tc : Thread nD τ).loc main_arg1) = mem ((c.tc : Thread nD τ).loc main_arg1)
        ∧ r.2.mem ((c.tc : Thread nD τ).loc main_arg2) = mem ((c.tc : Thread nD τ).loc main_arg2))
      ∧ r.2.sem = fun _ => 0 :=
  θ_run_mono (ref_run (fun d => (good_main d).lines) mem ρ) fun r h =>
    ⟨fun c => by
      obtain ⟨W, hW, hk, -⟩ := h c
      exact ⟨(hW _).trans (hk _ (by decide)), (hW _).trans (hk _ (by decide)), (hW _).trans (hk _ (by decide))⟩,
      sem_eq_zero_of_no_sems (by decide) _⟩

end Cert.Proof

end
-- ==== Proof.Hash.lean ====
/- The hash of two words under a key of two words: twenty rounds of add, rotate and exclusive-or, with a key word added after
   every four. -/
module

public import Idealize.ShloMosaic.PureOps.Ideal

@[expose] public section

namespace Cert.Proof

open Idealize.ShloMosaic

/-- The word `x` rotated: shifted left by `a` and right by `b`, joined. -/
def rot (a b x : BitVec 32) : BitVec 32 := IntOp.ori (IntOp.shli .vector x a) (IntOp.shrui .vector x b)

/-- One round on a pair: the first word becomes the sum, the second its rotation exclusive-or that sum. -/
def mix (a b : BitVec 32) (p : BitVec 32 × BitVec 32) : BitVec 32 × BitVec 32 :=
  (IntOp.addi p.1 p.2, IntOp.xori (IntOp.addi p.1 p.2) (rot a b p.2))

/-- The key words `a` and `b` and the count `c` added to a pair. -/
def inject (a b c : BitVec 32) (p : BitVec 32 × BitVec 32) : BitVec 32 × BitVec 32 :=
  (IntOp.addi p.1 a, IntOp.addi (IntOp.addi p.2 b) c)

/-- The four rounds that follow an even number of key additions. -/
def four (p : BitVec 32 × BitVec 32) : BitVec 32 × BitVec 32 := mix 6 26 (mix 26 6 (mix 15 17 (mix 13 19 p)))

/-- The four rounds that follow an odd number of key additions. -/
def four' (p : BitVec 32 × BitVec 32) : BitVec 32 × BitVec 32 := mix 24 8 (mix 16 16 (mix 29 3 (mix 17 15 p)))

/-- The third key word. -/
def third (k l : BitVec 32) : BitVec 32 := IntOp.xori (IntOp.xori k l) 466688986#32

/-- The hash of the pair `(x, y)` under the key `(k, l)`. -/
def hash (k l x y : BitVec 32) : BitVec 32 × BitVec 32 :=
  inject (third k l) k 5 (four (inject l (third k l) 4 (four' (inject k l 3 (four (inject (third k l) k 2 (four'
    (inject l (third k l) 1 (four (IntOp.addi x k, IntOp.addi y l))))))))))

/-- The key the noise is drawn under: the hash of zero under the seed. -/
theorem hash_seed : hash 0#32 42#32 0#32 0#32 = (1832780943#32, 270669613#32) := by decide +kernel

/-- The third word of that key. -/
theorem third_seed : third 1832780943#32 270669613#32 = 1724713080#32 := by decide +kernel

end Cert.Proof

end
-- ==== Proof.Noise.lean ====
/- The noise at a position: the hash of the position under the fixed key, read as a number from zero up to one. -/
module

public import proofs.«01_k».proof.Proof.Hash
public import Idealize.ShloMosaic.Lib.IdealHost

@[expose] public section

noncomputable section

namespace Cert.Proof

open Idealize.ShloMosaic

/-- The pattern of a number from one up to two whose fraction is the upper bits of the exclusive-or of a pair's words. -/
def patt (p : BitVec 32 × BitVec 32) : BitVec 32 := IntOp.ori (IntOp.shrui .vector (IntOp.xori p.1 p.2) 9#32) 1065353216#32

/-- The number, from zero up to one, of a pair of words. -/
def unit (p : BitVec 32 × BitVec 32) : EReal := Ideal.ofBits .f32 (patt p) - Ideal.ofBits .f32 0x3F800000#32

/-- The pair of words of the position `(r, c)`: the hash of its row-major number under the fixed key. -/
def pair (r c : ℕ) : BitVec 32 × BitVec 32 := hash 1832780943#32 270669613#32 0#32 (BitVec.ofNat 32 (10000 * r + c))

/-- A pattern with the exponent of one and any fraction is a real number that is at least one. -/
theorem ofBits_patt (p : BitVec 32 × BitVec 32) : ∃ x : ℝ, 1 ≤ x ∧ Ideal.ofBits .f32 (patt p) = (x : EReal) := by
  obtain ⟨y, hy⟩ : ∃ y : BitVec 32, patt p = (y >>> 9) ||| 1065353216#32 := ⟨IntOp.xori p.1 p.2, rfl⟩
  rw [hy]
  have h1 : ((y >>> 9) ||| 1065353216#32).extractLsb' (8 + 23) 1 = 0#1 := by
    ext i hi
    interval_cases i
    simp
  have h2 : ((y >>> 9) ||| 1065353216#32).extractLsb' 23 8 = 127#8 := by
    ext i hi
    interval_cases i <;> simp
  refine ⟨_, ?_, by
    show Ideal.ieee 8 23 _ = _
    unfold Ideal.ieee
    simp only [h1, h2]
    rw [if_neg (by decide), if_neg (by decide)]⟩
  norm_num
  have := Nat.cast_nonneg (α := ℝ) ((y.toNat >>> 9 ||| 1065353216) % 8388608)
  linarith

/-- The number of a pair of words is real and not negative. -/
theorem unit_real (p : BitVec 32 × BitVec 32) : ∃ x : ℝ, 0 ≤ x ∧ unit p = (x : EReal) := by
  obtain ⟨x, hx, h⟩ := ofBits_patt p
  refine ⟨x - 1, by linarith, ?_⟩
  rw [unit, h, Ideal.ofBits_one_f32]
  norm_cast

/-- Stretching the number to the interval from zero to one and clipping it there leaves it as it is. -/
theorem unit_clip (p : BitVec 32 × BitVec 32) {lo hi : EReal} (hl : lo = 0) (hh : hi = 1) :
    max lo (unit p * (hi - lo) + lo) = unit p := by
  obtain ⟨x, hx, h⟩ := unit_real p
  rw [hl, hh, h, sub_zero, mul_one, add_zero]
  exact max_eq_right (by exact_mod_cast hx)

end Cert.Proof

end
-- ==== Proof.Select.lean ====
/- Choosing the greatest entries of a row by rounds: a round finds the first position of the row's greatest entry and overwrites
   it with the least value; the positions found are the first ones of the row sorted downwards, equal entries in order. -/
module

public import Idealize.ShloMosaic.Lib.SortPrefix
public import Mathlib.Data.EReal.Basic
public import Mathlib.Data.Fintype.EquivFin
public import Mathlib.Data.Finset.Max

@[expose] public section

noncomputable section

namespace Cert.Proof

open Idealize.ShloMosaic

variable {n : ℕ}

/-- `p` is the first position of the row's greatest entry. -/
def IsFirst (w : Fin n → EReal) (p : Fin n) : Prop := (∀ q, w q ≤ w p) ∧ ∀ q, q < p → w q < w p

/-- Every row has a first position of its greatest entry. -/
theorem exists_isFirst [NeZero n] (w : Fin n → EReal) : ∃ p, IsFirst w p := by
  classical
  obtain ⟨m, -, hm⟩ := Finset.exists_max_image (Finset.univ : Finset (Fin n)) w ⟨0, Finset.mem_univ _⟩
  obtain ⟨p, hp, hmin⟩ := Finset.exists_min_image (Finset.univ.filter fun q => w q = w m) id
    ⟨m, Finset.mem_filter.mpr ⟨Finset.mem_univ _, rfl⟩⟩
  rw [Finset.mem_filter] at hp
  refine ⟨p, fun q => hp.2 ▸ hm q (Finset.mem_univ _), fun q hq => lt_of_le_of_ne (hp.2 ▸ hm q (Finset.mem_univ _)) fun e => ?_⟩
  exact absurd (hmin q (Finset.mem_filter.mpr ⟨Finset.mem_univ _, e.trans hp.2⟩)) (not_le.mpr hq)

/-- The first position of the row's greatest entry. -/
def firstOf [NeZero n] (w : Fin n → EReal) : Fin n := Classical.choose (exists_isFirst w)

/-- The chosen position is the first position of the greatest entry. -/
theorem isFirst_firstOf [NeZero n] (w : Fin n → EReal) : IsFirst w (firstOf w) := Classical.choose_spec (exists_isFirst w)

/-- The row with its first greatest entry overwritten with the least value. -/
def next [NeZero n] (w : Fin n → EReal) : Fin n → EReal := fun q => if q = firstOf w then ⊥ else w q

/-- The row after `k` rounds. -/
def left [NeZero n] (v : Fin n → EReal) : ℕ → Fin n → EReal
  | 0 => v
  | k + 1 => next (left v k)

/-- The position that round `k` finds. -/
def found [NeZero n] (v : Fin n → EReal) (k : ℕ) : Fin n := firstOf (left v k)

/-- After `k` rounds exactly the positions found are overwritten. -/
theorem left_eq [NeZero n] (v : Fin n → EReal) (k : ℕ) (q : Fin n) :
    left v k q = if ∃ i, i < k ∧ found v i = q then ⊥ else v q := by
  classical
  induction k with
  | zero => rw [if_neg (by rintro ⟨i, hi, -⟩; omega)]; rfl
  | succ k ih =>
    show (if q = found v k then ⊥ else left v k q) = _
    by_cases h : q = found v k
    · rw [if_pos h, if_pos ⟨k, Nat.lt_succ_self k, h.symm⟩]
    · rw [if_neg h, ih]
      refine if_congr ⟨fun ⟨i, hi, e⟩ => ⟨i, by omega, e⟩, fun ⟨i, hi, e⟩ => ⟨i, ?_, e⟩⟩ rfl rfl
      rcases Nat.lt_succ_iff_lt_or_eq.mp hi with hi | rfl
      · exact hi
      · exact absurd e.symm h

section Real

variable [NeZero n] {v : Fin n → EReal} (hv : ∀ q, v q ≠ ⊥)
include hv

/-- As long as positions remain, a round finds one that was not found before. -/
theorem found_new {k : ℕ} (hk : k < n) {i : ℕ} (hi : i < k) : found v i ≠ found v k := by
  classical
  intro e
  have h0 : left v k (found v k) = ⊥ := by rw [left_eq, if_pos ⟨i, hi, e⟩]
  obtain ⟨q, hq⟩ : ∃ q, q ∉ (Finset.range k).image (found v) := by
    by_contra h
    have h : ∀ q, q ∈ (Finset.range k).image (found v) := fun q => by_contra fun hq => h ⟨q, hq⟩
    have h1 : (Finset.univ : Finset (Fin n)).card ≤ ((Finset.range k).image (found v)).card :=
      Finset.card_le_card fun q _ => h q
    have h2 := Finset.card_image_le (s := Finset.range k) (f := found v)
    rw [Finset.card_univ, Fintype.card_fin] at h1
    rw [Finset.card_range] at h2
    omega
  have h1 : left v k q = v q := by
    rw [left_eq, if_neg]
    rintro ⟨j, hj, e'⟩
    exact hq (Finset.mem_image.mpr ⟨j, Finset.mem_range.mpr hj, e'⟩)
  have h2 := (isFirst_firstOf (left v k)).1 q
  rw [show firstOf (left v k) = found v k from rfl, h0, h1] at h2
  exact hv q (le_bot_iff.mp h2)

/-- The entry that a round finds is the row's own entry there, not yet struck out. -/
theorem left_found {k : ℕ} (hk : k < n) : left v k (found v k) = v (found v k) := by
  rw [left_eq, if_neg]
  rintro ⟨i, hi, e⟩
  exact found_new hv hk hi e

/-- A position not found in the rounds before `k` is not before the one round `k` finds. -/
theorem found_first {k : ℕ} (hk : k < n) {q : Fin n} (hq : ∀ i, i < k → found v i ≠ q) :
    v q ≤ v (found v k) ∧ (q < found v k → v q < v (found v k)) := by
  have h := isFirst_firstOf (left v k)
  have e : left v k q = v q := by
    rw [left_eq, if_neg]
    rintro ⟨i, hi, e⟩
    exact hq i hi e
  have h1 := h.1 q
  have h2 := h.2 q
  rw [show firstOf (left v k) = found v k from rfl, left_found hv hk, e] at h1 h2
  exact ⟨h1, h2⟩

end Real

/-- "`a` comes before `b`" in the row sorted downwards, equal entries in order. -/
def before (v : Fin n → EReal) (a b : Fin n) : Bool :=
  decide (v b < v a) || (decide (v a = v b) && decide (a < b))

/-- This order is strict and total. -/
theorem before_total (v : Fin n → EReal) : StrictTotalBefore (before v) := by
  classical
  have h := StrictTotalBefore.of_key_then_position (fun x y : EReal => decide (y < x)) v (by simp)
    (fun a b c h h' => decide_eq_true (lt_trans (of_decide_eq_true h') (of_decide_eq_true h)))
    (fun a b => by rcases lt_trichotomy a b with h | h | h <;> simp [h])
  exact h

/-- The first positions of the sorted row are those the rounds find. -/
theorem sortedFrom_before [NeZero n] {v : Fin n → EReal} (hv : ∀ q, v q ≠ ⊥) {k : ℕ} (hk : k ≤ n) (i : Fin k) :
    sortedFrom (before v) (i.castLE hk) = found v i := by
  have key : ∀ (i : Fin k) (q : Fin n), (∀ j, j < i.val → found v j ≠ q) → before v q (found v i) = false := by
    intro i q hq
    obtain ⟨h1, h2⟩ := found_first hv (by omega) hq
    by_contra hb
    have hb : before v q (found v i) = true := by simpa using hb
    simp only [before, Bool.or_eq_true, Bool.and_eq_true, decide_eq_true_eq] at hb
    rcases hb with hb | ⟨hb, hb'⟩
    · exact absurd hb (not_lt.mpr h1)
    · exact (h2 hb').ne hb
  refine (before_total v).sortedFrom_eq_of_prefix hk (fun i : Fin k => found v i) ?_ ?_ ?_ i
  · intro a b e
    rcases lt_trichotomy a b with h | h | h
    · exact absurd e (found_new hv (by omega) h)
    · exact h
    · exact absurd e.symm (found_new hv (by omega) h)
  · exact fun i j hij => key i _ fun a ha => found_new hv (by omega) (lt_trans ha hij)
  · exact fun i q hq => key i q fun a ha => hq ⟨a, by omega⟩

/-- A stable sort by the entries alone of positions in increasing order is the sort by the entries and then the position. -/
theorem stableSort_entries (v : Fin n → EReal) (l : List (Fin n)) (hl : l.Pairwise (· < ·)) :
    stableSort (fun a b => decide (v b < v a)) l = stableSort (before v) l := by
  have hins : ∀ (a : Fin n) (m : List (Fin n)), (∀ b ∈ m, a < b) →
      insertBefore (fun a b => decide (v b < v a)) a m = insertBefore (before v) a m := by
    intro a m hm
    induction m with
    | nil => rfl
    | cons b m ih =>
      have hab := hm b List.mem_cons_self
      have e : before v b a = decide (v a < v b) := by
        simp [before, not_lt.mpr hab.le]
      unfold insertBefore
      rw [e, ih fun c hc => hm c (List.mem_cons_of_mem _ hc)]
  induction l with
  | nil => rfl
  | cons a l ih =>
    obtain ⟨h1, h2⟩ := List.pairwise_cons.mp hl
    unfold stableSort
    rw [ih h2]
    exact hins a _ fun b hb => h1 b ((perm_stableSort _ _).mem_iff.mp hb)

/-- The row sorted by the entries alone, stably, is the row sorted by the entries and then the position. -/
theorem sortedFrom_entries (v : Fin n → EReal) (i : Fin n) :
    sortedFrom (fun a b => decide (v b < v a)) i = sortedFrom (before v) i := by
  have h : sortPositions n (fun a b => decide (v b < v a)) = sortPositions n (before v) :=
    stableSort_entries v _ (List.pairwise_lt_finRange n)
  unfold sortedFrom
  rw [List.get_of_eq h]
  rfl

end Cert.Proof

end
-- ==== Proof.Spec.lean ====
/- What the problem computes, on matrices of numbers: features, their skew product, the adjacency, the scores that rank it, and the
   adjacency with only the twenty best entries of every row kept. -/
module

public import proofs.«01_k».proof.Proof.Noise
public import proofs.«01_k».proof.Proof.Select
public import Idealize.ShloMosaic.Lib.ValueIdx

@[expose] public section

noncomputable section

namespace Cert.Proof

open Idealize.ShloMosaic Idealize.ShloMosaic.ValueIdx

/-- A matrix's entries by row and column. -/
def mat {n m : ℕ} (x : (⟨2, ![n, m]⟩ : Shape).Idx → EReal) (r : Fin n) (c : Fin m) : EReal := x (ix2 r c)

/-- The factor three. -/
def three : EReal := Ideal.ofBits .f32 0x40400000#32

/-- The features of the nodes `e` under the weights `w`. -/
def feat (e : Fin 10000 → Fin 64 → EReal) (w : Fin 64 → Fin 64 → EReal) (r : Fin 10000) (k : Fin 64) : EReal :=
  Ideal.tanh (three * ∑ j, e r j * w k j)

/-- The skew product of two families of features. -/
def skew (a b : Fin 10000 → Fin 64 → EReal) (r c : Fin 10000) : EReal := ∑ k, a r k * b c k - ∑ k, b r k * a c k

/-- The adjacency of a skew product: its saturation, negative entries replaced by zero. -/
def link (s : EReal) : EReal := max (Ideal.tanh (three * s)) (Ideal.ofBits .f32 0x00000000#32)

/-- The adjacency of the problem's three arguments. -/
def adj (e : Fin 10000 → Fin 64 → EReal) (w w' : Fin 64 → Fin 64 → EReal) (r c : Fin 10000) : EReal :=
  link (skew (feat e w) (feat e w') r c)

/-- The score of a position: its adjacency and a hundredth of its noise. -/
def score (a : Fin 10000 → Fin 10000 → EReal) (r c : Fin 10000) : EReal := a r c + unit (pair r c) * Ideal.ofBits .f32 0x3C23D70A#32

/-- The position is among the twenty best of its row. -/
def Kept (a : Fin 10000 → Fin 10000 → EReal) (r c : Fin 10000) : Prop := ∃ i, i < 20 ∧ found (score a r) i = c

open Classical in
/-- The matrix with the positions that are not among the twenty best of their row replaced by zero. -/
def masked (a : Fin 10000 → Fin 10000 → EReal) (r c : Fin 10000) : EReal := if Kept a r c then a r c else 0

/-- No entry of an adjacency is negative. -/
theorem link_nonneg (s : EReal) : 0 ≤ link s := by
  unfold link
  rw [Ideal.ofBits_zero_f32]
  exact le_max_right _ _

/-- A pattern whose exponent is not the greatest is a real number. -/
theorem ofBits_real (b : BitVec 32) (h : (b.extractLsb' 23 8).toNat ≠ 2 ^ 8 - 1) : ∃ x : ℝ, Ideal.ofBits .f32 b = (x : EReal) := by
  show ∃ x : ℝ, Ideal.ieee 8 23 b = (x : EReal)
  unfold Ideal.ieee
  dsimp only
  rw [if_neg h]
  by_cases h0 : (b.extractLsb' 23 8).toNat = 0
  · rw [if_pos h0]; exact ⟨_, rfl⟩
  · rw [if_neg h0]; exact ⟨_, rfl⟩

/-- A score is never the least value. -/
theorem score_ne_bot {a : Fin 10000 → Fin 10000 → EReal} (ha : ∀ r c, 0 ≤ a r c) (r c : Fin 10000) : score a r c ≠ ⊥ := by
  obtain ⟨x, -, hx⟩ := unit_real (pair r c)
  obtain ⟨y, hy⟩ := ofBits_real 0x3C23D70A#32 (by decide)
  unfold score
  rw [hx, hy, ← EReal.coe_mul, Ne, EReal.add_eq_bot_iff, not_or]
  exact ⟨(lt_of_lt_of_le EReal.bot_lt_zero (ha r c)).ne', EReal.coe_ne_bot _⟩

end Cert.Proof

end
-- ==== Proof.KerHash.lean ====
/- The hash as the selecting kernel computes it: each vector of words, read at a position, is a word of the hash of that
   position's number; so the kernel's score at a position is the adjacency there and a hundredth of the position's noise. -/
module

public import proofs.«01_k».proof.Proof.Gen.KernelIdeal.Frame
public import proofs.«01_k».proof.Proof.Spec
public import Idealize.ShloMosaic.Lib.ValueIdx
public import Idealize.ShloMosaic.Lib.Pipeline.Value

@[expose] public section

set_option maxRecDepth 16384

noncomputable section

namespace Cert.Proof

open Idealize.ShloMosaic Idealize.ShloMosaic.ValueIdx
open Cert.KernelIdeal (S40x10000 grid1)
open Cert.KernelIdeal.Gen

/-- A block of words. -/
abbrev Words := IVec S40x10000 32

/-- The two words at a position. -/
abbrev at2 (x y : Words) (j : S40x10000.Idx) : BitVec 32 × BitVec 32 := (x j, y j)

/-- A round on two blocks of words is at each position a round of the hash. -/
theorem round_at (a b : BitVec 32) (x y : Words) (j : S40x10000.Idx) :
    at2 (addi x y) (xori (ori (shli y (broadcast S40x10000 a)) (shrui y (broadcast S40x10000 b))) (addi x y)) j
      = mix a b (at2 x y j) :=
  Prod.ext rfl (BitVec.xor_comm _ _)

/-- The key words added to two blocks of words are at each position those of the hash. -/
theorem inject_at (a b c : BitVec 32) (x y : Words) (j : S40x10000.Idx) :
    at2 (addi x (broadcast S40x10000 a)) (addi (addi y (broadcast S40x10000 b)) (broadcast S40x10000 c)) j
      = inject a b c (at2 x y j) := rfl

/-- The first word of the key, -/
abbrev keyK : BitVec 32 := 1832780943#32

/-- the second, -/
abbrev keyL : BitVec 32 := 270669613#32

/-- and the third. -/
abbrev keyM : BitVec 32 := 1724713080#32

/-- Rounds 1 to 4. -/
theorem rounds0 (i : grid1.Coords) (j : S40x10000.Idx) :
    at2 (k1_pay10 i) (k1_pay11 i) j = four (IntOp.addi 0#32 keyK, k1_pay3 i j) := by
  have h1 : at2 (k1_pay4 i) (k1_pay5 i) j = _ := round_at 13#32 19#32 (broadcast S40x10000 keyK) (k1_pay3 i) j
  have h2 : at2 (k1_pay6 i) (k1_pay7 i) j = _ := round_at 15#32 17#32 (k1_pay4 i) (k1_pay5 i) j
  have h3 : at2 (k1_pay8 i) (k1_pay9 i) j = _ := round_at 26#32 6#32 (k1_pay6 i) (k1_pay7 i) j
  have h4 : at2 (k1_pay10 i) (k1_pay11 i) j = _ := round_at 6#32 26#32 (k1_pay8 i) (k1_pay9 i) j
  rw [h4, h3, h2, h1]
  rfl

section Middle

variable (x y : Words) (j : S40x10000.Idx)

/-- Rounds 5 to 8 from the words `x` (the key added) and `y` (the key not yet added), the key after them, and rounds 9 and 10. -/
theorem rounds1 : at2 (k1_pay24 y x keyM) (k1_pay25 (k1_pay23 y x keyM) (k1_pay24 y x keyM)) j
    = mix 15#32 17#32 (mix 13#32 19#32 (inject keyM keyK 2#32 (four' (at2 x (k1_pay13 y keyM) j)))) := by
  have h1 : at2 (k1_pay14 y x keyM) (k1_pay15 y x keyM) j = _ := round_at 17#32 15#32 x (k1_pay13 y keyM) j
  have h2 : at2 (k1_pay16 y x keyM) (k1_pay17 y x keyM) j = _ := round_at 29#32 3#32 (k1_pay14 y x keyM) (k1_pay15 y x keyM) j
  have h3 : at2 (k1_pay18 y x keyM) (k1_pay19 y x keyM) j = _ := round_at 16#32 16#32 (k1_pay16 y x keyM) (k1_pay17 y x keyM) j
  have h4 : at2 (addi (k1_pay20 y x keyM) (broadcast S40x10000 keyM)) (k1_pay21 y x keyM) j = _ :=
    (inject_at keyM keyK 2#32 _ _ j).trans (congrArg _ (round_at 24#32 8#32 (k1_pay18 y x keyM) (k1_pay19 y x keyM) j))
  have h5 : at2 (k1_pay22 y x keyM) (k1_pay23 y x keyM) j = _ :=
    round_at 13#32 19#32 (addi (k1_pay20 y x keyM) (broadcast S40x10000 keyM)) (k1_pay21 y x keyM) j
  have h6 : at2 (k1_pay24 y x keyM) (k1_pay25 (k1_pay23 y x keyM) (k1_pay24 y x keyM)) j = _ :=
    round_at 15#32 17#32 (k1_pay22 y x keyM) (k1_pay23 y x keyM) j
  rw [h6, h5, h4, h3, h2, h1]
  rfl

/-- Rounds 11 and 12 from round 10, the key after them, and rounds 13 to 15. -/
theorem rounds2 : at2 (k1_pay34 y x) (k1_pay37 (k1_pay34 y x) (k1_pay35 y x) (k1_pay36 y x)) j
    = mix 16#32 16#32 (mix 29#32 3#32 (mix 17#32 15#32 (inject keyK keyL 3#32 (mix 6#32 26#32 (mix 26#32 6#32
        (at2 x (k1_pay25 y x) j)))))) := by
  have h1 : at2 (k1_pay26 y x) (k1_pay27 y x) j = _ := round_at 26#32 6#32 x (k1_pay25 y x) j
  have h2 : at2 (addi (k1_pay28 y x) (broadcast S40x10000 keyK)) (k1_pay29 y x) j = _ :=
    (inject_at keyK keyL 3#32 _ _ j).trans (congrArg _ (round_at 6#32 26#32 (k1_pay26 y x) (k1_pay27 y x) j))
  have h3 : at2 (k1_pay30 y x) (k1_pay31 y x) j = _ :=
    round_at 17#32 15#32 (addi (k1_pay28 y x) (broadcast S40x10000 keyK)) (k1_pay29 y x) j
  have h4 : at2 (k1_pay32 y x) (k1_pay33 y x) j = _ := round_at 29#32 3#32 (k1_pay30 y x) (k1_pay31 y x) j
  have h5 : at2 (k1_pay34 y x) (k1_pay37 (k1_pay34 y x) (k1_pay35 y x) (k1_pay36 y x)) j = _ :=
    round_at 16#32 16#32 (k1_pay32 y x) (k1_pay33 y x) j
  rw [h5, h4, h3, h2, h1]

/-- Round 16 from round 15, the key after it, and rounds 17 to 20, with the last key addition to the first word. -/
theorem rounds3 (z w : Words) : at2 (k1_pay46 x z w) (k1_pay47 x z w) j
    = four (inject keyL keyM 4#32 (mix 24#32 8#32 (at2 x (k1_pay37 x z w) j))) := by
  have h1 : at2 (addi (k1_pay38 x z w) (broadcast S40x10000 keyL)) (k1_pay39 x z w) j = _ :=
    (inject_at keyL keyM 4#32 _ _ j).trans (congrArg _ (round_at 24#32 8#32 x (k1_pay37 x z w) j))
  have h2 : at2 (k1_pay40 x z w) (k1_pay41 x z w) j = _ :=
    round_at 13#32 19#32 (addi (k1_pay38 x z w) (broadcast S40x10000 keyL)) (k1_pay39 x z w) j
  have h3 : at2 (k1_pay42 x z w) (k1_pay43 x z w) j = _ := round_at 15#32 17#32 (k1_pay40 x z w) (k1_pay41 x z w) j
  have h4 : at2 (k1_pay44 x z w) (k1_pay45 x z w) j = _ := round_at 26#32 6#32 (k1_pay42 x z w) (k1_pay43 x z w) j
  have h5 : at2 (k1_pay46 x z w) (k1_pay47 x z w) j = _ := round_at 6#32 26#32 (k1_pay44 x z w) (k1_pay45 x z w) j
  rw [h5, h4, h3, h2, h1]
  rfl

end Middle

/-- The key after rounds 1 to 4. -/
theorem key0 (i : grid1.Coords) (j : S40x10000.Idx) :
    at2 (k1_pay12 i) (k1_pay13 (k1_pay11 i) keyM) j = inject keyL keyM 1#32 (at2 (k1_pay10 i) (k1_pay11 i) j) :=
  inject_at keyL keyM 1#32 (k1_pay10 i) (k1_pay11 i) j

/-- Multiplying and adding words is multiplying and adding the numbers they stand for. -/
theorem number_eq (b a c k m : ℕ) : (BitVec.ofNat 32 a + BitVec.ofNat 32 b * BitVec.ofNat 32 k) * BitVec.ofNat 32 m + BitVec.ofNat 32 c
    = BitVec.ofNat 32 (m * (k * b + a) + c) := by
  rw [← BitVec.ofNat_mul, ← BitVec.ofNat_add, ← BitVec.ofNat_mul, ← BitVec.ofNat_add]
  congr 1
  ring

/-- The number a position of a block starts from: its row-major number in the whole matrix, and the second key word. -/
theorem number (i : grid1.Coords) (a : Fin 40) (c : Fin 10000) :
    k1_pay3 i (ix2 a c) = IntOp.addi (BitVec.ofNat 32 (10000 * (40 * (i 0).val + a.val) + c.val)) keyL := by
  unfold k1_pay3
  dsimp only
  show IntOp.addi (IntOp.addi (IntOp.muli (IntOp.addi (iota .tc S40x10000 32 [0] _ (ix2 a c)) _) _) (iota .tc S40x10000 32 [1] _ (ix2 a c))) _ = _
  rw [iota_single_apply, iota_single_apply, ← number_eq (i 0).val a.val c.val 40 10000]
  rfl

/-- The words `x` read as numbers, less the number `p`, times the number `q`, added to `v`. -/
theorem scaled_at (v : FVec Ideal S40x10000 .f32) (x : Words) (p q : BitVec 32) (j : S40x10000.Idx) :
    (addf v (mulf (subf (bitcastToFloat .f32 x) (broadcast S40x10000 (Scalar.ofBits .f32 p)))
        (broadcast S40x10000 (Scalar.ofBits .f32 q))) j : EReal)
      = (v j : EReal) + (Ideal.ofBits .f32 (x j) - Ideal.ofBits .f32 p) * Ideal.ofBits .f32 q := rfl

/-- The words `x` and `y` after the last rounds, the key added, make the pattern of the noise. -/
theorem patt_at (x y : Words) (j : S40x10000.Idx) :
    ori (shrui (xori (addi x (broadcast S40x10000 keyM)) (addi (addi y (broadcast S40x10000 keyK)) (broadcast S40x10000 5#32)))
      (broadcast S40x10000 9#32)) (broadcast S40x10000 1065353216#32) j = patt (inject keyM keyK 5#32 (at2 x y j)) := rfl

/-- The words `x` and `y` after the last rounds, the key added, make the noise that is added to `v`. -/
theorem noise_at (v : FVec Ideal S40x10000 .f32) (x y : Words) (j : S40x10000.Idx) :
    (k1_pay49 v y (addi x (broadcast S40x10000 keyM)) keyK j : EReal)
      = (v j : EReal) + unit (inject keyM keyK 5#32 (at2 x y j)) * Ideal.ofBits .f32 0x3C23D70A#32 := by
  unfold k1_pay49 unit
  rw [← patt_at]
  exact scaled_at v _ _ _ j

/-- The block's words after all rounds are the hash of the position's number. -/
theorem hash_at (i : grid1.Coords) (x0 : Vec Ideal S40x10000 .f32) (j : S40x10000.Idx) (n : BitVec 32)
    (hn : k1_pay3 i j = IntOp.addi n keyL) :
    inject keyM keyK 5#32 (at2 (k1_pay46 (k1_pay97 i x0) (k1_pay98 i x0) (k1_pay99 i x0)) (k1_pay100 i x0) j)
      = hash keyK keyL 0#32 n := by
  have e100 : k1_pay100 i x0 = k1_pay47 (k1_pay97 i x0) (k1_pay98 i x0) (k1_pay99 i x0) := rfl
  have e99 : k1_pay99 i x0 = k1_pay36 (k1_pay95 i x0) (k1_pay96 i x0) := rfl
  have e98 : k1_pay98 i x0 = k1_pay35 (k1_pay95 i x0) (k1_pay96 i x0) := rfl
  have e97 : k1_pay97 i x0 = k1_pay34 (k1_pay95 i x0) (k1_pay96 i x0) := rfl
  have e96 : k1_pay96 i x0 = k1_pay24 (k1_pay11 i) (k1_pay12 i) keyM := rfl
  have e95 : k1_pay95 i x0 = k1_pay23 (k1_pay11 i) (k1_pay12 i) keyM := rfl
  have h := third_seed
  rw [e100, rounds3, e99, e98, e97, rounds2, e96, e95, rounds1, key0, rounds0, hn, hash]
  unfold four'
  rw [h]
  unfold four
  rfl

/-- The kernel's score at a position of a block: the adjacency there and a hundredth of the noise of that position. -/
theorem score_at (i : grid1.Coords) (v : FVec Ideal S40x10000 .f32) (x0 : Vec Ideal S40x10000 .f32) (a : Fin 40) (c : Fin 10000) :
    (k1_pay49 v (k1_pay100 i x0) (k1_pay101 i x0) keyK (ix2 a c) : EReal)
      = (v (ix2 a c) : EReal) + unit (pair (40 * (i 0).val + a.val) c.val) * Ideal.ofBits .f32 0x3C23D70A#32 := by
  have e101 : k1_pay101 i x0 = addi (k1_pay46 (k1_pay97 i x0) (k1_pay98 i x0) (k1_pay99 i x0)) (broadcast S40x10000 keyM) := rfl
  rw [e101, noise_at, hash_at i x0 (ix2 a c) _ (number i a c), pair]

end Cert.Proof

end
-- ==== Proof.KerSelect.lean ====
/- The selecting kernel's rounds: a round on a block finds in every row the first position of the row's greatest entry, marks it
   and overwrites it with the least value; so after twenty rounds the marks are the twenty positions found. -/
module

public import proofs.«01_k».proof.Proof.Gen.KernelIdeal.Frame
public import proofs.«01_k».proof.Proof.Select
public import Idealize.ShloMosaic.Lib.ValueIdx
public import Idealize.ShloMosaic.Lib.Pipeline.Value
public import Idealize.ShloMosaic.Lib.ValueLayoutCasts
public import Idealize.ShloMosaic.PureOps.Ideal.Laws
public import Mathlib.Data.Finset.Fold

@[expose] public section

set_option maxRecDepth 16384

noncomputable section

namespace Cert.Proof

open Idealize.ShloMosaic Idealize.ShloMosaic.ValueIdx
open Cert.KernelIdeal (S40x10000 S40x1 S40)
open Cert.KernelIdeal.Gen (reduces_S40x10000_S40 shapeCasts_S40_S40x1 broadcasts_S40x1_S40x10000)

/-- A row has one first position of its greatest entry. -/
theorem IsFirst.eq {n : ℕ} [NeZero n] {w : Fin n → EReal} {p : Fin n} (h : IsFirst w p) : p = firstOf w := by
  have h' := isFirst_firstOf w
  rcases lt_trichotomy p (firstOf w) with e | e | e
  · exact absurd (h'.2 p e) (not_lt.mpr (h.1 _))
  · exact e
  · exact absurd (h.2 _ e) (not_lt.mpr (h'.1 _))

/-- A block of numbers. -/
abbrev Block := FVec Ideal S40x10000 .f32

/-- A block of marks. -/
abbrev Marks := IVec S40x10000 1

/-- A block's row. -/
def row (w : Block) (a : Fin 40) : Fin 10000 → EReal := fun c => w (ix2 a c)

/-- Reducing along the rows puts a position to its row. -/
theorem drop_row (a : Fin 40) (c : Fin 10000) : reduces_S40x10000_S40.drop (ix2 a c) = ix1 a := by
  funext b
  match b with
  | ⟨0, _⟩ => exact Fin.ext (reduces_S40x10000_S40.drop_apply_val_of_eq (ix2 a c) 0 0)

/-- One entry per row, repeated along the row. -/
def spread {α : Type} (u : S40.Idx → α) : S40x10000.Idx → α :=
  broadcastTo S40x10000 (shapeCast S40x1 u shapeCasts_S40_S40x1) broadcasts_S40x1_S40x10000

/-- The numbers of the rows, spread over a block, at a position. -/
theorem spread_at {α : Type} (u : S40.Idx → α) (a : Fin 40) (c : Fin 10000) : spread u (ix2 a c) = u (ix1 a) := by
  have h : spread u (ix2 a c) = shapeCast S40x1 u shapeCasts_S40_S40x1 (ix2 a (0 : Fin 1)) :=
    broadcastTo_apply _ broadcasts_S40x1_S40x10000 (ix2 a c) (ix2 a (0 : Fin 1)) fun ax => by
      match ax with
      | ⟨0, _⟩ => rfl
      | ⟨1, _⟩ => rfl
  rw [h]
  exact shapeCast_a_a1_apply u shapeCasts_S40_S40x1 a 0

/-- The pattern the rounds overwrite with is the least value. -/
theorem bottom : Ideal.ofBits .f32 0xFF800000#32 = ⊥ := by
  simp [Ideal.ofBits, Ideal.ieee]

/-- The greatest entry of every row. -/
def tops (w : Block) : FVec Ideal S40 .f32 :=
  multiReduction .maximumf [1] S40 w 0xFF800000#32 reduces_S40x10000_S40 (.inl rfl) rfl

/-- The greatest entry of a row of a block. -/
theorem tops_at (w : Block) (a : Fin 40) : (tops w (ix1 a) : EReal) = row w a (firstOf (row w a)) := by
  have h := isFirst_firstOf (row w a)
  have e : (tops w (ix1 a) : EReal) = (Finset.univ.filter fun i => reduces_S40x10000_S40.drop i = ix1 a).fold max
      (FloatOps.ofBits (F := Ideal) .f32 0xFF800000#32 : EReal) w :=
    multiReduction_maximumf_eq_fold w 0xFF800000#32 reduces_S40x10000_S40 (.inl rfl) rfl (ix1 a)
  rw [e]
  apply le_antisymm
  · rw [Finset.fold_max_le]
    refine ⟨le_of_eq_of_le bottom bot_le, fun i hi => ?_⟩
    obtain ⟨r, c, rfl⟩ : ∃ (r : Fin 40) (c : Fin 10000), i = ix2 r c := ⟨i 0, i 1, eq_ix2 i⟩
    have hr : ix1 r = ix1 a := (drop_row r c).symm.trans (Finset.mem_filter.mp hi).2
    obtain rfl : r = a := congrFun hr 0
    exact h.1 c
  · rw [Finset.le_fold_max]
    exact .inr ⟨ix2 a (firstOf (row w a)), Finset.mem_filter.mpr ⟨Finset.mem_univ _, drop_row _ _⟩, le_rfl⟩

/-- The positions of every row that hold its greatest entry, by their numbers, and 10000 at the others. -/
def cand (col : IVec S40x10000 32) (w : Block) : IVec S40x10000 32 :=
  select (cmpf .oeq w (spread (tops w))) col (broadcast S40x10000 10000#32)

/-- The first of them in every row. -/
def firsts (col : IVec S40x10000 32) (w : Block) : IVec S40 32 :=
  multiReductionI .minsi [1] S40 (cand col w) 2147483647#32 reduces_S40x10000_S40 rfl

/-- Its mark. -/
def pick (col : IVec S40x10000 32) (w : Block) : Marks := cmpi .eq (cand col w) (spread (firsts col w))

/-- Marked entries replaced by the number `p`, at an index. -/
theorem choose_at (m : Marks) (p : BitVec 32) (w : Block) (i : S40x10000.Idx) :
    select (α := Ideal .f32) m (broadcast S40x10000 (Scalar.ofBits (F := Ideal) .f32 p)) w i = if m i = 1#1 then Ideal.ofBits .f32 p else w i := rfl

/-- The block with the marked entries overwritten. -/
def strike (m : Marks) (w : Block) : Block := select m (broadcast S40x10000 (Scalar.ofBits .f32 0xFF800000#32)) w

/-- A block with the marked positions struck out, at a position. -/
theorem strike_at (m : Marks) (w : Block) (i : S40x10000.Idx) : (strike m w i : EReal) = if m i = 1#1 then ⊥ else w i := by
  rw [← bottom]
  exact choose_at m _ w i

section Round

variable {col : IVec S40x10000 32} (hcol : ∀ a c, col (ix2 a c) = BitVec.ofNat 32 c.val) (w : Block) (a : Fin 40)
include hcol

open Classical in
/-- The candidate at a position is the position where the row's greatest entry stands, and the row's length elsewhere. -/
theorem cand_at (c : Fin 10000) :
    cand col w (ix2 a c) = if row w a c = row w a (firstOf (row w a)) then BitVec.ofNat 32 c.val else 10000#32 := by
  have e : cand col w (ix2 a c) = if BitVec.ofBool (decide ((w (ix2 a c) : EReal) = spread (tops w) (ix2 a c))) = 1#1
      then col (ix2 a c) else 10000#32 := rfl
  rw [e, hcol, spread_at, tops_at]
  show (if BitVec.ofBool (decide (row w a c = _)) = 1#1 then _ else _) = _
  by_cases h : row w a c = row w a (firstOf (row w a))
  · rw [if_pos h, decide_eq_true h]; rfl
  · rw [if_neg h, decide_eq_false h]; rfl

omit hcol in
/-- The lesser of two words, as an integer. -/
theorem toInt_minsi (x y : BitVec 32) : (IntOp.minsi x y).toInt = min x.toInt y.toInt := by
  unfold IntOp.minsi
  by_cases h : x.toInt < y.toInt
  · rw [if_pos (by rw [BitVec.slt_iff_toInt_lt]; exact h), min_eq_left h.le]
  · rw [if_neg (by rw [BitVec.slt_iff_toInt_lt]; exact h), min_eq_right (not_lt.mp h)]

omit hcol in
/-- The word of a position is that position as an integer. -/
theorem toInt_small {c : ℕ} (h : c ≤ 10000) : (BitVec.ofNat 32 c).toInt = c := by
  rw [BitVec.toInt_eq_toNat_of_lt (by rw [BitVec.toNat_ofNat]; omega), BitVec.toNat_ofNat, Nat.mod_eq_of_lt (by omega)]

/-- The least candidate of a row is the first position of the row's greatest entry. -/
theorem firsts_at : firsts col w (ix1 a) = BitVec.ofNat 32 (firstOf (row w a)).val := by
  classical
  have hf := isFirst_firstOf (row w a)
  have hp := (firstOf (row w a)).isLt
  have e : firsts col w (ix1 a) = (Finset.univ.filter fun i => reduces_S40x10000_S40.drop i = ix1 a).fold IntOp.minsi
      2147483647#32 (cand col w) := multiReductionI_eq_fold .minsi (cand col w) 2147483647#32 reduces_S40x10000_S40 rfl (ix1 a)
  apply BitVec.eq_of_toInt_eq
  rw [e, ← Finset.fold_hom (op' := min) (m := BitVec.toInt) toInt_minsi, toInt_small hp.le]
  apply le_antisymm
  · rw [Finset.fold_min_le]
    refine .inr ⟨ix2 a (firstOf (row w a)), Finset.mem_filter.mpr ⟨Finset.mem_univ _, drop_row _ _⟩, ?_⟩
    rw [cand_at hcol, if_pos rfl, toInt_small hp.le]
  · rw [Finset.le_fold_min]
    refine ⟨?_, fun i hi => ?_⟩
    · rw [show (2147483647#32 : BitVec 32).toInt = 2147483647 from by decide]
      omega
    · obtain ⟨r, c, rfl⟩ : ∃ (r : Fin 40) (c : Fin 10000), i = ix2 r c := ⟨i 0, i 1, eq_ix2 i⟩
      have hr : ix1 r = ix1 a := (drop_row r c).symm.trans (Finset.mem_filter.mp hi).2
      obtain rfl : r = a := congrFun hr 0
      rw [cand_at hcol]
      split
      next h =>
        rw [toInt_small c.isLt.le]
        by_contra hlt
        have hlt : c < firstOf (row w r) := Fin.lt_def.mpr (by omega)
        exact absurd h (hf.2 c hlt).ne
      next =>
        rw [show (10000#32 : BitVec 32).toInt = 10000 from by decide]
        omega

open Classical in
/-- A round marks in every row the first position of the row's greatest entry. -/
theorem pick_at (c : Fin 10000) : pick col w (ix2 a c) = BitVec.ofBool (decide (c = firstOf (row w a))) := by
  have hp := (firstOf (row w a)).isLt
  have hc := c.isLt
  have e : pick col w (ix2 a c) = BitVec.ofBool (cand col w (ix2 a c) == spread (firsts col w) (ix2 a c)) := rfl
  rw [e, spread_at, firsts_at hcol, cand_at hcol]
  refine congrArg BitVec.ofBool ?_
  rw [Bool.eq_iff_iff, beq_iff_eq, decide_eq_true_iff]
  have inj : ∀ {x y : ℕ}, x ≤ 10000 → y ≤ 10000 → BitVec.ofNat 32 x = BitVec.ofNat 32 y → x = y := fun hx hy h => by
    have h := congrArg BitVec.toNat h
    rw [BitVec.toNat_ofNat, BitVec.toNat_ofNat, Nat.mod_eq_of_lt (by omega), Nat.mod_eq_of_lt (by omega)] at h
    exact h
  constructor
  · split
    next h => exact fun h => Fin.ext (inj hc.le hp.le h)
    next h => exact fun h => absurd (inj le_rfl hp.le h) (by omega)
  · rintro rfl
    rw [if_pos rfl]

/-- A round's block is in every row the row with its first greatest entry overwritten. -/
theorem row_strike : row (strike (pick col w) w) a = next (row w a) := by
  classical
  funext c
  rw [row, strike_at, pick_at hcol, next]
  by_cases h : c = firstOf (row w a)
  · rw [if_pos h, decide_eq_true h]; rfl
  · rw [if_neg h, decide_eq_false h]; rfl

end Round

/-- The block after `k` rounds. -/
def work (col : IVec S40x10000 32) (w : Block) : ℕ → Block
  | 0 => w
  | k + 1 => strike (pick col (work col w k)) (work col w k)

/-- The marks `m` and those of the first `k` rounds. -/
def marks (col : IVec S40x10000 32) (m : Marks) (w : Block) : ℕ → Marks
  | 0 => m
  | k + 1 => ori (marks col m w k) (pick col (work col w k))

/-- Some rounds on a block and then some more are all of them together. -/
theorem work_add (col : IVec S40x10000 32) (w : Block) (k l : ℕ) : work col (work col w k) l = work col w (k + l) := by
  induction l with
  | zero => rfl
  | succ l ih =>
    show strike (pick col (work col (work col w k) l)) (work col (work col w k) l) = _
    rw [ih]
    rfl

/-- The marks of some rounds and then of some more are the marks of all of them together. -/
theorem marks_add (col : IVec S40x10000 32) (m : Marks) (w : Block) (k l : ℕ) :
    marks col (marks col m w k) (work col w k) l = marks col m w (k + l) := by
  induction l with
  | zero => rfl
  | succ l ih =>
    show ori (marks col (marks col m w k) (work col w k) l) (pick col (work col (work col w k) l)) = _
    rw [ih, work_add]
    rfl

section Rounds

variable {col : IVec S40x10000 32} (hcol : ∀ a c, col (ix2 a c) = BitVec.ofNat 32 c.val) (w : Block) (a : Fin 40)
include hcol

/-- Rounds on a block are rounds on each of its rows. -/
theorem row_work (k : ℕ) : row (work col w k) a = left (row w a) k := by
  induction k with
  | zero => rfl
  | succ k ih =>
    show row (strike (pick col (work col w k)) (work col w k)) a = next (left (row w a) k)
    rw [row_strike hcol, ih]

open Classical in
/-- The marks of the first `k` rounds are the positions those rounds find. -/
theorem marks_at (k : ℕ) (c : Fin 10000) :
    marks col (broadcast S40x10000 0#1) w k (ix2 a c) = BitVec.ofBool (decide (∃ i, i < k ∧ found (row w a) i = c)) := by
  induction k with
  | zero =>
    rw [decide_eq_false (by rintro ⟨i, hi, -⟩; omega)]
    rfl
  | succ k ih =>
    have e : marks col (broadcast S40x10000 0#1) w (k + 1) (ix2 a c)
      = marks col (broadcast S40x10000 0#1) w k (ix2 a c) ||| pick col (work col w k) (ix2 a c) := rfl
    rw [e, ih, pick_at hcol, row_work hcol]
    show _ ||| BitVec.ofBool (decide (c = found (row w a) k)) = _
    rw [BitVec.ofBool_or_ofBool, ← Bool.decide_or]
    refine congrArg BitVec.ofBool (decide_eq_decide.mpr ⟨?_, ?_⟩)
    · rintro (⟨i, hi, h⟩ | h)
      · exact ⟨i, by omega, h⟩
      · exact ⟨k, by omega, h.symm⟩
    · rintro ⟨i, hi, h⟩
      rcases Nat.lt_succ_iff_lt_or_eq.mp hi with hi | rfl
      · exact .inl ⟨i, hi, h⟩
      · exact .inr h.symm

end Rounds

end Cert.Proof

end
-- ==== Proof.KerBlock.lean ====
/- What the selecting kernel leaves of a block: the block's entries at the twenty best positions of every row, and zero elsewhere. -/
module

public import proofs.«01_k».proof.Proof.KerHash
public import proofs.«01_k».proof.Proof.KerSelect
public import Idealize.ShloMosaic.Lib.MatmulPlain

@[expose] public section

set_option maxRecDepth 16384

noncomputable section

namespace Cert.Proof

open Idealize.ShloMosaic Idealize.ShloMosaic.ValueIdx
open Cert.KernelIdeal (S40x10000 grid1)
open Cert.KernelIdeal.Gen

/-- The positions that hold their row's greatest entry. -/
def hits (w : Block) : Marks := cmpf .oeq w (spread (tops w))

section Chunks

variable (col : IVec S40x10000 32) (m : Marks) (w : Block)

/-- The first printed piece of the selection is two rounds, and the spread greatest entries that the next round starts from. -/
theorem chunk0 (v : Block) (x y : Words) (h : w = k1_pay49 v x y keyK) :
    k1_pay54 v col x y keyK = work col w 2 ∧ k1_pay55 v col x y keyK = spread (tops (work col w 2))
      ∧ k1_pay53 v col x y keyK = marks col (broadcast S40x10000 0#1) w 2 := by
  subst h
  exact ⟨rfl, rfl, rfl⟩

/-- The second piece is three rounds more, and the next round's picked positions. -/
theorem chunk1 : k1_pay62 col w (spread (tops w)) = work col w 3 ∧ k1_pay63 col w (spread (tops w)) = pick col (work col w 3)
      ∧ k1_pay61 col m w (spread (tops w)) = marks col m w 3 := ⟨rfl, rfl, rfl⟩

/-- The third piece is four rounds, the first already picked, and the positions that hold the greatest entry of the round after. -/
theorem chunk2 : k1_pay71 col w (pick col w) = work col w 4 ∧ k1_pay72 col w (pick col w) = hits (work col w 4)
      ∧ k1_pay70 col m w (pick col w) = marks col m w 4 := ⟨rfl, rfl, rfl⟩

/-- The fourth piece is three rounds of the block and four of the marks, the fourth round's positions picked for the next piece. -/
theorem chunk3 : k1_pay78 col w (hits w) = work col w 3 ∧ k1_pay79 col w (hits w) = pick col (work col w 3)
      ∧ k1_pay80 col m w (hits w) = marks col m w 4 := ⟨rfl, rfl, rfl⟩

/-- The fifth piece is four rounds of the block; the marks are those of the three rounds after the first. -/
theorem chunk4 : k1_pay88 col w (pick col w) = work col w 4 ∧ k1_pay89 col w (pick col w) = hits (work col w 4)
      ∧ k1_pay87 col w (pick col w) m = marks col m (work col w 1) 3 := ⟨rfl, rfl, rfl⟩

/-- The last piece marks the positions of four rounds. -/
theorem chunk5 : k1_pay90 col m w (hits w) 10000#32 = marks col m w 4 := rfl

end Chunks

/-- A position of a block is marked or not; an unmarked entry becomes zero. -/
theorem mask_at (m : Marks) (w : Block) (p : BitVec 32) (j : S40x10000.Idx) :
    (k1_pay1 w m (Scalar.ofBits (F := Ideal) .f32 p) j : EReal) = if m j = 1#1 then (w j : EReal) else Ideal.ofBits .f32 p := rfl

open Classical in
/-- The selecting kernel leaves of a block its entries at the twenty best positions of every row, and zero elsewhere: the score
    of a position is its entry and a hundredth of the noise of the position's place in the whole matrix. -/
theorem select_block (i : grid1.Coords) (x : Block) (a : Fin 40) (c : Fin 10000) :
    (out1_1 (F := Ideal) i x (ix2 a c) : EReal)
      = if ∃ k, k < 20 ∧ found (fun c => row x a c + unit (pair (40 * (i 0).val + a.val) c.val) * Ideal.ofBits .f32 0x3C23D70A#32) k = c
        then row x a c else 0 := by
  have hz : (![0, 0] : Fin 2 → ℕ) = fun _ => 0 := by decide
  have hcol : ∀ (a : Fin 40) (c : Fin 10000), k1_pay91 (F := Ideal) i x (ix2 a c) = BitVec.ofNat 32 c.val := fun a c =>
    iota_single_apply .tc S40x10000 32 1 iota_S40x10000_d1_w32 (ix2 a c)
  have e92 : k1_pay92 (F := Ideal) i x = x := by
    unfold k1_pay92 k1_pay2
    dsimp only
    rw [shapeCast_self]
    exact View.ld_unit_zero (Val := Elt Ideal) (e := .f32) (S := S40x10000) hz _ x
  obtain ⟨w, hw⟩ : ∃ w, w = k1_pay49 x (k1_pay100 (F := Ideal) i x) (k1_pay101 (F := Ideal) i x) keyK := ⟨_, rfl⟩
  have hrow : row w a = fun c => row x a c + unit (pair (40 * (i 0).val + a.val) c.val) * Ideal.ofBits .f32 0x3C23D70A#32 := by
    funext c
    rw [hw]
    exact score_at i x x a c
  obtain ⟨p1, p2, p3⟩ := chunk0 (k1_pay91 (F := Ideal) i x) w x (k1_pay100 (F := Ideal) i x) (k1_pay101 (F := Ideal) i x) hw
  have e102 : k1_pay102 (F := Ideal) i x = work (k1_pay91 (F := Ideal) i x) w 2 := by unfold k1_pay102; rw [e92, p1]
  have e103 : k1_pay103 (F := Ideal) i x = spread (tops (work (k1_pay91 (F := Ideal) i x) w 2)) := by unfold k1_pay103; rw [e92, p2]
  have c1 := fun m => chunk1 (k1_pay91 (F := Ideal) i x) m (work (k1_pay91 (F := Ideal) i x) w 2)
  have e104 : k1_pay104 (F := Ideal) i x = work (k1_pay91 (F := Ideal) i x) w 5 := by
    unfold k1_pay104; rw [e102, e103, (c1 (broadcast S40x10000 0#1)).1, work_add]
  have e105 : k1_pay105 (F := Ideal) i x = pick (k1_pay91 (F := Ideal) i x) (work (k1_pay91 (F := Ideal) i x) w 5) := by
    unfold k1_pay105; rw [e102, e103, (c1 (broadcast S40x10000 0#1)).2.1, work_add]
  have c2 := fun m => chunk2 (k1_pay91 (F := Ideal) i x) m (work (k1_pay91 (F := Ideal) i x) w 5)
  have e106 : k1_pay106 (F := Ideal) i x = work (k1_pay91 (F := Ideal) i x) w 9 := by
    unfold k1_pay106; rw [e104, e105, (c2 (broadcast S40x10000 0#1)).1, work_add]
  have e107 : k1_pay107 (F := Ideal) i x = hits (work (k1_pay91 (F := Ideal) i x) w 9) := by
    unfold k1_pay107; rw [e104, e105, (c2 (broadcast S40x10000 0#1)).2.1, work_add]
  have c3 := fun m => chunk3 (k1_pay91 (F := Ideal) i x) m (work (k1_pay91 (F := Ideal) i x) w 9)
  have e108 : k1_pay108 (F := Ideal) i x = work (k1_pay91 (F := Ideal) i x) w 12 := by
    unfold k1_pay108; rw [e106, e107, (c3 (broadcast S40x10000 0#1)).1, work_add]
  have e109 : k1_pay109 (F := Ideal) i x = pick (k1_pay91 (F := Ideal) i x) (work (k1_pay91 (F := Ideal) i x) w 12) := by
    unfold k1_pay109; rw [e106, e107, (c3 (broadcast S40x10000 0#1)).2.1, work_add]
  have c4 := fun m => chunk4 (k1_pay91 (F := Ideal) i x) m (work (k1_pay91 (F := Ideal) i x) w 12)
  unfold out1_1
  rw [View.canon_unit_zero (S := S40x10000) hz, e102, e103, e104, e105, e106, e107, e108, e109, e92, p3, (c1 _).2.2, marks_add,
    (c2 _).2.2, marks_add, (c3 _).2.2, marks_add, (c4 _).2.2, work_add, marks_add, (c4 (broadcast S40x10000 0#1)).1,
    (c4 (broadcast S40x10000 0#1)).2.1, work_add, chunk5, marks_add, mask_at, marks_at hcol, hrow, Ideal.ofBits_zero_f32]
  split
  next h =>
    rw [if_pos]
    · rfl
    · by_contra hn
      rw [decide_eq_false hn] at h
      exact absurd h (by decide)
  next h =>
    rw [if_neg]
    intro hn
    rw [decide_eq_true hn] at h
    exact h rfl

end Cert.Proof

end
-- ==== Proof.KerArray.lean ====
/- What the two kernels leave of a whole array: the skew product of the two families of features, and the matrix with the best
   entries of every row kept. -/
module

public import proofs.«01_k».proof.Proof.KerBlock
public import Idealize.ShloMosaic.Lib.Pipeline.ValueKit
public import Idealize.ShloMosaic.Lib.Pipeline.Covers

@[expose] public section

set_option maxRecDepth 16384

noncomputable section

namespace Cert.Proof

open Idealize.ShloMosaic hiding ix2 eq_ix2
open Idealize.ShloMosaic.ValueIdx Idealize.SL.Sem
open Cert.KernelIdeal Cert.KernelIdeal.Gen

/-- The skew kernel leaves of a block of rows the difference of two products with the whole arrays. -/
theorem skew_block (x0 x1 : FVec Ideal S200x64 .f32) (x2 x3 : FVec Ideal S10000x64 .f32) (a : Fin 200) (c : Fin 10000) :
    (out0_4 (F := Ideal) x0 x1 x2 x3 (ix2 a c) : EReal)
      = ∑ k : Fin 64, (x0 (ix2 a k) : EReal) * x3 (ix2 c k) - ∑ k : Fin 64, (x1 (ix2 a k) : EReal) * x2 (ix2 c k) := by
  have hz : (![0, 0] : Fin 2 → ℕ) = fun _ => 0 := by decide
  unfold out0_4
  rw [View.canon_unit_zero (S := S200x10000) hz, View.ld_unit_zero (Val := Elt Ideal) (e := .f32) (S := S200x64) hz _ x0,
    View.ld_unit_zero (Val := Elt Ideal) (e := .f32) (S := S200x64) hz _ x1,
    View.ld_unit_zero (Val := Elt Ideal) (e := .f32) (S := S10000x64) hz _ x2,
    View.ld_unit_zero (Val := Elt Ideal) (e := .f32) (S := S10000x64) hz _ x3]
  unfold k0_pay1
  rw [shapeCast_self, shapeCast_self, shapeCast_self, shapeCast_self]
  have hm : ∀ (x : FVec Ideal S200x64 .f32) (y : FVec Ideal S10000x64 .f32),
      (matmul dot_S200x64_S10000x64_S200x10000_1_1_0_0_n_n none x y (constant (F := Ideal) S200x10000 .f32 0x00000000#32) (ix2 a c) : EReal)
        = ∑ k : Fin 64, (x (ix2 a k) : EReal) * y (ix2 c k) := fun x y => by
    refine (Ideal.matmul_transposedRhs_apply (M := 200) (K := 64) (N := 10000) none x y _ a c).trans ?_
    show Ideal.ofBits .f32 0x00000000#32 + _ = _
    rw [Ideal.ofBits_zero_f32, zero_add]
  exact congrArg₂ (fun y z : EReal => y - z) (hm _ _) (hm _ _)

variable (V : (c : Dev nD) → (b : Ref sig .tc) → Buf (Elt Ideal) (c.tc.loc b)) (c : Dev nD)

/-- Where the skew kernel's blocks lie. -/
theorem place0 : ∀ t : Fin grid0.N, win0_0.index t = ![t.val, 0] ∧ win0_1.index t = ![t.val, 0] ∧ win0_2.index t = ![0, 0]
    ∧ win0_3.index t = ![0, 0] ∧ win0_4.index t = ![t.val, 0] := by decide +kernel

/-- Where the selecting kernel's blocks lie. -/
theorem place1 : ∀ t : Fin grid1.N, win1_0.index t = ![(grid1.coords t 0).val, 0] ∧ win1_1.index t = ![(grid1.coords t 0).val, 0] := by
  decide +kernel

/-- A block of forty rows of the adjacency, at its place in the whole array. -/
theorem read1 (t : Fin grid1.N) (a : Fin 40) (k r : Fin 10000) (h : r.val = 40 * (grid1.coords t 0).val + a.val) :
    iblk1 (F := Ideal) V c 0 t (ix2 a k) = V c main_v14 (ix2 r k) := by
  blk_ext [iblk1, (place1 t).1]
  show (grid1.coords t 0).val * 40 + a.val = r.val
  omega

/-- Where an entry of a block of the selecting kernel lies in the result array. -/
theorem emb1 (t : Fin grid1.N) (a : Fin 40) (k r : Fin 10000) (h : r.val = 40 * (grid1.coords t 0).val + a.val) :
    ((cfg1.win 1).blk t).view.emb (ix2 a k) = ix2 r k := by
  blk_ext [(place1 t).2]
  show (grid1.coords t 0).val * 40 + a.val = r.val
  omega

/-- A block of two hundred rows of the first features, at its place in the whole array. -/
theorem read0_0 (t : Fin grid0.N) (a : Fin 200) (k : Fin 64) (r : Fin 10000) (h : r.val = 200 * t.val + a.val) :
    iblk0 (F := Ideal) V c 0 t (ix2 a k) = V c main_v4 (ix2 r k) := by
  blk_ext [iblk0, (place0 t).1]
  show t.val * 200 + a.val = r.val
  omega

/-- A block of two hundred rows of the second features, at its place in the whole array. -/
theorem read0_1 (t : Fin grid0.N) (a : Fin 200) (k : Fin 64) (r : Fin 10000) (h : r.val = 200 * t.val + a.val) :
    iblk0 (F := Ideal) V c 1 t (ix2 a k) = V c main_v9 (ix2 r k) := by
  blk_ext [iblk0, (place0 t).2.1]
  show t.val * 200 + a.val = r.val
  omega

/-- The whole of the first features. -/
theorem read0_2 (t : Fin grid0.N) (r : Fin 10000) (k : Fin 64) : iblk0 (F := Ideal) V c 2 t (ix2 r k) = V c main_v4 (ix2 r k) := by
  blk_ext [iblk0, (place0 t).2.2.1]

/-- The whole of the second features. -/
theorem read0_3 (t : Fin grid0.N) (r : Fin 10000) (k : Fin 64) : iblk0 (F := Ideal) V c 3 t (ix2 r k) = V c main_v9 (ix2 r k) := by
  blk_ext [iblk0, (place0 t).2.2.2.1]

/-- Where an entry of a block of the skew kernel lies in the result array. -/
theorem emb0 (t : Fin grid0.N) (a : Fin 200) (k r : Fin 10000) (h : r.val = 200 * t.val + a.val) :
    ((cfg0.win 4).blk t).view.emb (ix2 a k) = ix2 r k := by
  blk_ext [(place0 t).2.2.2.2]
  show t.val * 200 + a.val = r.val
  omega

/-- What the skew kernel leaves at a grid point, by the place in the whole array. -/
theorem skew_point (t : Fin grid0.N) (a : Fin 200) (k r : Fin 10000) (h : r.val = 200 * t.val + a.val) :
    (out0_4 (F := Ideal) (iblk0 V c 0 t) (iblk0 V c 1 t) (iblk0 V c 2 t) (iblk0 V c 3 t) (ix2 a k) : EReal)
      = skew (mat (V c main_v4)) (mat (V c main_v9)) r k :=
  (skew_block _ _ _ _ a k).trans (congrArg₂ (fun y z : EReal => y - z)
    (Finset.sum_congr rfl fun j _ => congrArg₂ (fun y z : EReal => y * z) (read0_0 V c t a j r h) (read0_3 V c t k j))
    (Finset.sum_congr rfl fun j _ => congrArg₂ (fun y z : EReal => y * z) (read0_1 V c t a j r h) (read0_2 V c t k j)))

/-- What the selecting kernel leaves at a grid point, by the place in the whole array. -/
theorem masked_point (t : Fin grid1.N) (a : Fin 40) (k r : Fin 10000) (h : r.val = 40 * (grid1.coords t 0).val + a.val) :
    (out1_1 (F := Ideal) (grid1.coords t) (iblk1 V c 0 t) (ix2 a k) : EReal) = masked (mat (V c main_v14)) r k := by
  have hrow : row (iblk1 (F := Ideal) V c 0 t) a = mat (V c main_v14) r := funext fun j => read1 V c t a j r h
  refine (select_block (grid1.coords t) _ a k).trans ?_
  rw [hrow, ← h]
  rfl

/-- The skew kernel's result array. -/
theorem skew_array : (dat0 (F := Ideal) V c).arrAt 4 cfg0.N
    = fun i : S10000x10000.Idx => skew (mat (V c main_v4)) (mat (V c main_v9)) (i 0) (i 1) := by
  refine (dat0 (F := Ideal) V c).arrAt_eq_of_covers 4 _ (by decide +kernel) fun t hf y => ?_
  obtain ⟨a, b, rfl⟩ : ∃ (a : Fin 200) (b : Fin 10000), y = ix2 a b := ⟨y 0, y 1, eq_ix2 y⟩
  have ht : t.val < 50 := t.isLt
  have hr : 200 * t.val + a.val < 10000 := by omega
  have he := emb0 t a b ⟨_, hr⟩ rfl
  have hp := skew_point V c t a b ⟨_, hr⟩ rfl
  rw [after0_4, he]
  blk_simp
  exact hp

/-- The selecting kernel's result array. -/
theorem masked_array : (dat1 (F := Ideal) V c).arrAt 1 cfg1.N
    = fun i : S10000x10000.Idx => masked (mat (V c main_v14)) (i 0) (i 1) := by
  refine (dat1 (F := Ideal) V c).arrAt_eq_of_covers 1 _ (by decide +kernel) fun t hf y => ?_
  obtain ⟨a, b, rfl⟩ : ∃ (a : Fin 40) (b : Fin 10000), y = ix2 a b := ⟨y 0, y 1, eq_ix2 y⟩
  have ht : (grid1.coords t 0).val < 250 := (grid1.coords t 0).isLt
  have hr : 40 * (grid1.coords t 0).val + a.val < 10000 := by omega
  have he := emb1 t a b ⟨_, hr⟩ rfl
  have hp := masked_point V c t a b ⟨_, hr⟩ rfl
  rw [after1_1, he]
  blk_simp
  exact hp

end Cert.Proof

end
-- ==== Proof.KerHost.lean ====
/- What the kernel program's host operations compute, and what the whole program leaves in its result: the adjacency of its
   arguments with only the best entries of every row kept. -/
module

public import proofs.«01_k».proof.Proof.KerArray
public import Idealize.ShloMosaic.Lib.StableHlo.Run
public import Idealize.ShloMosaic.Lib.StackMember
public import Idealize.ShloMosaic.Lib.ValueLayout

@[expose] public section

set_option maxRecDepth 16384

noncomputable section

namespace Cert.Proof

open Idealize.ShloMosaic hiding ix2 eq_ix2 ix4 eq_ix4
open Idealize.ShloMosaic.ValueIdx Idealize.ShloMosaic.StableHlo Idealize.SL.Sem
open Cert.KernelIdeal Cert.KernelIdeal.Gen

/-- The features as the kernel program's host operations compute them. -/
theorem feat_kernel (e : FVec Ideal S10000x64 .f32) (w : FVec Ideal S64x64 .f32) (h : S64x64.Transposes [1, 0] S64x64)
    (hb : S_.BroadcastsInDim S10000x64 ![]) :
    mat (Host.tanh (mulf (broadcastInDim S10000x64 ![] hb (constant (F := Ideal) S_ .f32 0x40400000#32))
      (Host.dotGeneral dot_S10000x64_S64x64_S10000x64_1_0_0_1_n_n none e (transpose S64x64 [1, 0] w h)))) = feat (mat e) (mat w) := by
  funext r k
  show Ideal.tanh (three * Host.dotGeneral (DotDims.plain 10000 64 64) none e (transpose S64x64 [1, 0] w h) (ix2 r k)) = _
  rw [StackMember.dotGeneral_plain_apply]
  exact congrArg (fun z : EReal => Ideal.tanh (three * z))
    (Finset.sum_congr rfl fun j _ => congrArg (fun z : EReal => (e (ix2 r j) : EReal) * z) (transpose_ix2_apply w h j k))

section Lists

variable (X : Valuation τ sig (Elt Ideal))

/-- The first features, from the first and the second argument. -/
theorem host_v4 : mat (after hostOps0 X (Proc.devRef .tc main_v4))
    = feat (mat (X (Proc.devRef .tc main_arg0))) (mat (X (Proc.devRef .tc main_arg1))) := by
  refine Eq.trans (congrArg mat ?_) (feat_kernel _ _ transposes_S64x64_S64x64_1_0 bcast_S_S10000x64)
  after_results

/-- The second features, from the first and the third argument. -/
theorem host_v9 : mat (after hostOps0 X (Proc.devRef .tc main_v9))
    = feat (mat (X (Proc.devRef .tc main_arg0))) (mat (X (Proc.devRef .tc main_arg2))) := by
  refine Eq.trans (congrArg mat ?_) (feat_kernel _ _ transposes_S64x64_S64x64_1_0 bcast_S_S10000x64)
  after_results

/-- The saturation of the skew product. -/
theorem host_v13 : after hostOps1 X (Proc.devRef .tc main_v13)
    = Host.tanh (mulf (broadcastInDim S10000x10000 ![] bcast_S_S10000x10000 (constant (F := Ideal) S_ .f32 0x40400000#32))
      (X (Proc.devRef .tc main_v10))) := by
  after_results

/-- The adjacency: the saturation with negative entries replaced by zero. -/
theorem host_v14 : after hostOps1_1 X (Proc.devRef .tc main_v14)
    = maximumf (F := Ideal) (s := S10000x10000) (φ := .f32) (X (Proc.devRef .tc main_v13))
      (broadcastInDim S10000x10000 ![] bcast_S_S10000x10000 (constant (F := Ideal) S_ .f32 0x00000000#32)) := by
  after_results
  rfl

/-- The result is the last array under two axes of one element. -/
theorem host_v16 (a b : Fin 1) (r c : Fin 10000) :
    after hostOps2 X (Proc.devRef .tc main_v16) (ix4 a b r c) = X (Proc.devRef .tc main_v15) (ix2 r c) := by
  rw [hostOps2]
  simp only [after_cons, after_nil]
  rw [reshape_result]
  refine shapeCast_apply _ _ _ _ ?_
  refine (Shape.rowMajor_val_two (d := ![10000, 10000]) _).trans (Eq.trans ?_ (Shape.rowMajor_val_four (d := ![1, 1, 10000, 10000]) _).symm)
  show r.val * 10000 + c.val = ((a.val * 1 + b.val) * 10000 + r.val) * 10000 + c.val
  omega

end Lists

/-- The adjacency of the three arguments as they stand at launch. -/
def adjAt (m : (ℓ : Loc nD τ sig) → Buf (Elt Ideal) ℓ) (c : Dev nD) : Fin 10000 → Fin 10000 → EReal :=
  adj (mat (m (c.tc.loc main_arg0))) (mat (m (c.tc.loc main_arg1))) (mat (m (c.tc.loc main_arg2)))

section Program

variable (m : (ℓ : Loc nD τ sig) → Buf (Elt Ideal) ℓ) (ρ : Dev nD → PrngReg) (d : Dev nD)

/-- After the skew kernel: the skew product of the two families of features. -/
theorem at_v10 (i : S10000x10000.Idx) : (W2 (F := Ideal) m ρ d (Proc.devRef .tc main_v10) i : EReal)
    = skew (feat (mat (m (d.tc.loc main_arg0))) (mat (m (d.tc.loc main_arg1))))
        (feat (mat (m (d.tc.loc main_arg0))) (mat (m (d.tc.loc main_arg2)))) (i 0) (i 1) := by
  refine (congrFun ((W2_arr (F := Ideal) m ρ d 4).trans (skew_array (V1 m ρ) d)) i).trans ?_
  exact congrArg₂ (fun a b => skew a b (i 0) (i 1)) (host_v4 (W0 m ρ d)) (host_v9 (W0 m ρ d))

/-- Before the selecting kernel: the adjacency. -/
theorem at_v14 : mat (W4 (F := Ideal) m ρ d (Proc.devRef .tc main_v14)) = adjAt m d := by
  funext r c
  have h13 : W3 (F := Ideal) m ρ d (Proc.devRef .tc main_v13) = _ := host_v13 (W2 m ρ d)
  refine (congrFun (host_v14 (W3 m ρ d)) (ix2 r c)).trans ?_
  rw [h13]
  exact congrArg link (at_v10 m ρ d (ix2 r c))

/-- The result of the kernel program: the adjacency of its arguments with only the twenty best entries of every row kept. -/
theorem at_v16 (a b : Fin 1) (r c : Fin 10000) :
    (W6 (F := Ideal) m ρ d (Proc.devRef .tc main_v16) (ix4 a b r c) : EReal) = masked (adjAt m d) r c := by
  refine (host_v16 (W5 m ρ d) a b r c).trans ?_
  refine (congrFun ((W5_arr (F := Ideal) m ρ d 1).trans (masked_array (V4 m ρ) d)) (ix2 r c)).trans ?_
  exact congrArg (fun x => masked x r c) (at_v14 m ρ d)

end Program

end Cert.Proof

end
-- ==== Proof.KerRun.lean ====
/- The kernel program's run at extended reals: it ends with the contents that the fold of its steps gives its result, its
   arguments unchanged. -/
module

public import proofs.«01_k».proof.Proof.KerHost

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.KernelIdeal Cert.KernelIdeal.Gen

local notation "World" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one
set_option backward.isDefEq.respectTransparency.types false in
/-- The kernel program terminates without fault, its result array holding what its steps leave there and its arguments what
    they held at launch. -/
theorem ker_run : θ_run (defs (F := Ideal)) (onTc (τ := τ) (main (F := Ideal))) ⟨m, fun _ => 0, ρ⟩ fun r => ∀ c : Dev nD,
      r.2.mem ((c.tc : Thread nD τ).loc main_v16) = W6 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := Ideal)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp World)
            ⊢ BI.own (emb₁ (initOf (Pipeline.cells cfgs cellOf_inj) (Pipeline.launchToks cfgs cellOf_inj))) from .rfl)
        iexact Hu
      iapply (show (BI.emp : sProp World) ⊢ bigSep Finset.univ (fun _ : Dev nD => (BI.emp : sProp World)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ c =>
      ⟨h c _ (mem_uc main_v16 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.Proof

end
-- ==== Proof.RefHash.lean ====
/- What the reference's two hash functions compute, at each position: the hash of the two words there under the key. -/
module

public import proofs.«01_k».proof.ReferenceIdeal
public import proofs.«01_k».proof.Proof.Gen.ReferenceIdeal
public import proofs.«01_k».proof.Proof.Lines
public import proofs.«01_k».proof.Proof.Hash
public import Idealize.ShloMosaic.Lib.IdealHost
public import Idealize.ShloMosaic.Lib.ValueIdxCore

@[expose] public section

set_option maxRecDepth 16384

noncomputable section

namespace Cert.Proof

open Idealize.ShloMosaic Idealize.ShloMosaic.StableHlo Idealize.SL.Sem Cert.ReferenceIdeal Idealize.ShloMosaic.ValueIdx

/-- The programs of the reference. -/
abbrev Line : Type _ := Prog (TpuEff nD τ sig (Elt Ideal) (Pipeline.Sig Λ₀ (Fin 0) fun p => (pcfgs (F := Ideal) p).Adm) .tc) PUnit

variable {D : Shape} {rest : Line} {E : Valuation τ sig (Elt Ideal) → Prop}

/-- The nine statements of one round make one round of the hash at each position. -/
theorem lines_mix {a b s ra rb l r o x : TRef sig ⟨D, .i32⟩} {c d : TRef sig ⟨S_, .i32⟩} {m n : BitVec 32}
    {h h' : S_.BroadcastsInDim D ![]} (hr : Lines rest E) :
    Lines (do
      hlo rfl (TRef.binary a b s addi) (fun _ => .ret ⟨⟩)
      hlo rfl (TRef.nullary c (constantI S_ 32 m)) (fun _ => .ret ⟨⟩)
      hlo rfl (TRef.unary c ra (broadcastInDim D ![] h)) (fun _ => .ret ⟨⟩)
      hlo rfl (TRef.binary b ra l Host.shli) (fun _ => .ret ⟨⟩)
      hlo rfl (TRef.nullary d (constantI S_ 32 n)) (fun _ => .ret ⟨⟩)
      hlo rfl (TRef.unary d rb (broadcastInDim D ![] h')) (fun _ => .ret ⟨⟩)
      hlo rfl (TRef.binary b rb r Host.shrui) (fun _ => .ret ⟨⟩)
      hlo rfl (TRef.binary l r o ori) (fun _ => .ret ⟨⟩)
      hlo rfl (TRef.binary s o x xori) (fun _ => .ret ⟨⟩)
      rest : Line) fun W => (∀ i, (rd s W i, rd x W i) = mix m n (rd a W i, rd b W i)) ∧ E W := by
  refine (Lines.bind .tbinary (Lines.bind .tnullary (Lines.bind .tunary (Lines.bind .tbinary (Lines.bind .tnullary (Lines.bind .tunary
    (Lines.bind .tbinary (Lines.bind .tbinary (Lines.bind .tbinary hr))))))))).mono ?_
  rintro W ⟨e1, e2, e3, e4, e5, e6, e7, e8, e9, hE⟩
  refine ⟨fun i => ?_, hE⟩
  rw [e9, e8, e7, e6, e5, e4, e3, e2, e1]
  show (_, IntOp.xori _ (IntOp.ori (IntOp.shli .host _ _) (IntOp.shrui .host _ _))) = _
  rw [shli_host, shrui_host]
  rfl

/-- The seven statements of a key addition add the two key words and the count at each position. -/
theorem lines_inject {a b ra s rb t rc u : TRef sig ⟨D, .i32⟩} {k l c : TRef sig ⟨S_, .i32⟩} {n : BitVec 32}
    {h h' h'' : S_.BroadcastsInDim D ![]} (hr : Lines rest E) :
    Lines (do
      hlo rfl (TRef.unary k ra (broadcastInDim D ![] h)) (fun _ => .ret ⟨⟩)
      hlo rfl (TRef.binary a ra s addi) (fun _ => .ret ⟨⟩)
      hlo rfl (TRef.unary l rb (broadcastInDim D ![] h')) (fun _ => .ret ⟨⟩)
      hlo rfl (TRef.binary b rb t addi) (fun _ => .ret ⟨⟩)
      hlo rfl (TRef.nullary c (constantI S_ 32 n)) (fun _ => .ret ⟨⟩)
      hlo rfl (TRef.unary c rc (broadcastInDim D ![] h'')) (fun _ => .ret ⟨⟩)
      hlo rfl (TRef.binary t rc u addi) (fun _ => .ret ⟨⟩)
      rest : Line) fun W => (∀ i, (rd s W i, rd u W i) = inject (rd k W ix0) (rd l W ix0) n (rd a W i, rd b W i)) ∧ E W := by
  refine (Lines.bind .tunary (Lines.bind .tbinary (Lines.bind .tunary (Lines.bind .tbinary (Lines.bind .tnullary (Lines.bind .tunary
    (Lines.bind .tbinary hr))))))).mono ?_
  rintro W ⟨e1, e2, e3, e4, e5, e6, e7, hE⟩
  refine ⟨fun i => ?_, hE⟩
  rw [e7, e6, e5, e4, e3, e2, e1]
  show (IntOp.addi _ (broadcastInDim (s := S_) D ![] h _ i),
    IntOp.addi (IntOp.addi _ (broadcastInDim (s := S_) D ![] h' _ i)) (broadcastInDim (s := S_) D ![] h'' _ i)) = _
  rw [broadcastInDim_scalar_apply, broadcastInDim_scalar_apply, broadcastInDim_scalar_apply]
  rfl

/-- The seven statements before the first round make the third key word and add the first two to the pair. -/
theorem lines_start {a b ra s rb t : TRef sig ⟨D, .i32⟩} {k l kl c z : TRef sig ⟨S_, .i32⟩} {h h' : S_.BroadcastsInDim D ![]}
    (hr : Lines rest E) :
    Lines (do
      hlo rfl (TRef.binary k l kl xori) (fun _ => .ret ⟨⟩)
      hlo rfl (TRef.nullary c (constantI S_ 32 466688986#32)) (fun _ => .ret ⟨⟩)
      hlo rfl (TRef.binary kl c z xori) (fun _ => .ret ⟨⟩)
      hlo rfl (TRef.unary k ra (broadcastInDim D ![] h)) (fun _ => .ret ⟨⟩)
      hlo rfl (TRef.binary a ra s addi) (fun _ => .ret ⟨⟩)
      hlo rfl (TRef.unary l rb (broadcastInDim D ![] h')) (fun _ => .ret ⟨⟩)
      hlo rfl (TRef.binary b rb t addi) (fun _ => .ret ⟨⟩)
      rest : Line) fun W => (rd z W ix0 = third (rd k W ix0) (rd l W ix0)
        ∧ ∀ i, (rd s W i, rd t W i) = (IntOp.addi (rd a W i) (rd k W ix0), IntOp.addi (rd b W i) (rd l W ix0))) ∧ E W := by
  refine (Lines.bind .tbinary (Lines.bind .tnullary (Lines.bind .tbinary (Lines.bind .tunary (Lines.bind .tbinary (Lines.bind .tunary
    (Lines.bind .tbinary hr))))))).mono ?_
  rintro W ⟨e1, e2, e3, e4, e5, e6, e7, hE⟩
  refine ⟨⟨?_, fun i => ?_⟩, hE⟩
  · rw [e3, e2, e1]; rfl
  · rw [e7, e6, e5, e4]
    show (IntOp.addi _ (broadcastInDim (s := S_) D ![] h _ i), IntOp.addi _ (broadcastInDim (s := S_) D ![] h' _ i)) = _
    rw [broadcastInDim_scalar_apply, broadcastInDim_scalar_apply]

/-- The hash function on one word per side: its two results at each position are the hash of its two operands there. -/
theorem lines_hash (k l : TRef sig ⟨S_, .i32⟩) (x y : TRef sig ⟨S1, .i32⟩) (φ : fn_threefry2x32.Bufs) :
    Lines (fn_threefry2x32.body (F := Ideal) k l x y φ) fun W => ∀ i, (rd φ.v171 W i, rd φ.v175 W i)
      = hash (rd k W ix0) (rd l W ix0) (rd x W i) (rd y W i) := by
  unfold fn_threefry2x32.body fn_threefry2x32.body_part0 fn_threefry2x32.body_part1 fn_threefry2x32.body_part2 fn_threefry2x32.body_part3
  simp only [bind_assoc]
  apply Lines.mono
  · apply lines_start
    repeat (first | exact Lines.ret | apply lines_mix | apply lines_inject)
  · rintro W ⟨⟨hz, h0⟩, h1, h2, h3, h4, h5, h6, h7, h8, h9, h10, h11, h12, h13, h14, h15, h16, h17, h18, h19, h20, h21, h22, h23, h24, h25, -⟩ i
    rw [h25, h24, h23, h22, h21, h20, h19, h18, h17, h16, h15, h14, h13, h12, h11, h10, h9, h8, h7, h6, h5, h4, h3, h2, h1, h0, hz]
    rfl

/-- The hash function on two matrices of words: its two results at each position are the hash of its two operands there. -/
theorem lines_hash0 (k l : TRef sig ⟨S_, .i32⟩) (x y : TRef sig ⟨S10000x10000, .i32⟩) (φ : fn_threefry2x32_0.Bufs) :
    Lines (fn_threefry2x32_0.body (F := Ideal) k l x y φ) fun W => ∀ i, (rd φ.v171 W i, rd φ.v175 W i)
      = hash (rd k W ix0) (rd l W ix0) (rd x W i) (rd y W i) := by
  unfold fn_threefry2x32_0.body fn_threefry2x32_0.body_part0 fn_threefry2x32_0.body_part1 fn_threefry2x32_0.body_part2 fn_threefry2x32_0.body_part3
  simp only [bind_assoc]
  apply Lines.mono
  · apply lines_start
    repeat (first | exact Lines.ret | apply lines_mix | apply lines_inject)
  · rintro W ⟨⟨hz, h0⟩, h1, h2, h3, h4, h5, h6, h7, h8, h9, h10, h11, h12, h13, h14, h15, h16, h17, h18, h19, h20, h21, h22, h23, h24, h25, -⟩ i
    rw [h25, h24, h23, h22, h21, h20, h19, h18, h17, h16, h15, h14, h13, h12, h11, h10, h9, h8, h7, h6, h5, h4, h3, h2, h1, h0, hz]
    rfl

end Cert.Proof

end
-- ==== Proof.RefDraw.lean ====
/- The reference's key and its noise: the key is the hash of the seed, the noise at a position the number of that position's pair of words. -/
module

public import proofs.«01_k».proof.Proof.RefHash
public import proofs.«01_k».proof.Proof.Noise
public import Idealize.ShloMosaic.Lib.Pipeline.Value

@[expose] public section

set_option maxRecDepth 16384

noncomputable section

namespace Cert.Proof

open Idealize.ShloMosaic Idealize.ShloMosaic.StableHlo Idealize.SL.Sem Cert.ReferenceIdeal Idealize.ShloMosaic.ValueIdx

attribute [local irreducible] fn_threefry2x32.body fn_threefry2x32_0.body

section Pieces

variable {α : Type}

/-- A one-entry vector has one index. -/
theorem idx_S1 (i j : S1.Idx) : i = j :=
  funext fun a => Fin.ext (by
    have h : S1.size a = 1 := by fin_cases a; rfl
    have := (i a).isLt
    have := (j a).isLt
    omega)

/-- The first entry cut out of a pair. -/
theorem cut_fst (x : S2.Idx → α) (h : S2.Slices ![0] S1) (i : S1.Idx) : extractStridedSlice S1 ![0] x h i = x (ix1 0) := by
  rw [idx_S1 i (ix1 0)]
  exact congrArg x (funext fun a => by fin_cases a; rfl)

/-- The second entry cut out of a pair. -/
theorem cut_snd (x : S2.Idx → α) (h : S2.Slices ![1] S1) (i : S1.Idx) : extractStridedSlice S1 ![1] x h i = x (ix1 1) := by
  rw [idx_S1 i (ix1 0)]
  exact congrArg x (funext fun a => by fin_cases a; rfl)

/-- The first entry of a pair put together from two entries. -/
theorem join_fst (x y : S1.Idx → α) (h : Shape.Concatenates [S1, S1] S2 0) :
    concatenate S2 0 [⟨S1, x⟩, ⟨S1, y⟩] h (ix1 0) = x (ix1 0) :=
  concatenate_pair_apply_left 0 x y h _ rfl _ fun b => by fin_cases b; rfl

/-- The second entry of a pair put together from two entries. -/
theorem join_snd (x y : S1.Idx → α) (h : Shape.Concatenates [S1, S1] S2 0) :
    concatenate S2 0 [⟨S1, x⟩, ⟨S1, y⟩] h (ix1 1) = y (ix1 0) :=
  concatenate_pair_apply_right 0 x y h _ rfl rfl _ (fun b hb => absurd (by fin_cases b; rfl) hb) rfl

/-- A one-entry vector read as a scalar. -/
theorem scalar_of (x : S1.Idx → α) (h : S1.ShapeCasts S_) : shapeCast S_ x h ix0 = x (ix1 0) :=
  congrArg x (idx_S1 _ _)

end Pieces

/-- The two key words the seed's hash gives. -/
theorem lines_fold_in (k : TRef sig ⟨S2, .i32⟩) (x : TRef sig ⟨S_, .i32⟩) (φ : fn_threefry_fold_in.Bufs) :
    Lines (fn_threefry_fold_in.body (F := Ideal) k x φ) fun W =>
      rd k W (ix1 0) = 0#32 → rd k W (ix1 1) = 42#32 → rd x W ix0 = 0#32 →
      rd φ.v12 W (ix1 0) = 1832780943#32 ∧ rd φ.v12 W (ix1 1) = 270669613#32 := by
  unfold fn_threefry_fold_in.body
  apply Lines.mono
  · repeat (first
      | exact Lines.ret
      | apply Lines.bind .tnullary
      | apply Lines.bind .tunary
      | apply Lines.bind .tbinary
      | apply Lines.bind .treshape
      | apply Lines.bind (lines_hash _ _ _ _ _))
  · rintro W ⟨e1, e2, e3, e4, e5, e6, e7, e8, e9, e10, e11, e12, e13, e14, e15, -⟩ h0 h1 hx
    have h := e14 (ix1 0)
    rw [e13, e12, e11, e10, e9, e8, e7, e6, e5, e4, e3, e2, e1] at h
    simp only [cut_fst, cut_snd, join_fst, join_snd, scalar_of, h0, h1] at h
    rw [broadcastInDim_scalar_apply, broadcastInDim_scalar_apply,
      show Host.shrui (rd x W) (constantI S_ 32 32#32) ix0 = 0#32 from by
        show IntOp.shrui .host (rd x W ix0) 32#32 = _
        rw [hx]; decide,
      show andi (rd x W) (constantI S_ 32 4294967295#32) ix0 = 0#32 from by
        show IntOp.andi (rd x W ix0) 4294967295#32 = _
        rw [hx]; decide, hash_seed] at h
    rw [e15, join_fst, join_snd]
    exact ⟨congrArg Prod.fst h, congrArg Prod.snd h⟩

/-- The row-major number of a position below ten thousand on both axes, as the low word of its sixty-four bits. -/
theorem word_lo {r c : ℕ} (hr : r < 10000) (hc : c < 10000) :
    (IntOp.addi (IntOp.muli 10000#64 (BitVec.ofNat 64 r)) (IntOp.muli 1#64 (BitVec.ofNat 64 c))).setWidth 32
      = BitVec.ofNat 32 (10000 * r + c) := by
  unfold IntOp.addi IntOp.muli
  apply BitVec.eq_of_toNat_eq
  simp only [BitVec.toNat_setWidth, BitVec.toNat_add, BitVec.toNat_mul, BitVec.toNat_ofNat]
  omega

/-- Its high word is zero. -/
theorem word_hi {r c : ℕ} (hr : r < 10000) (hc : c < 10000) :
    (IntOp.shrui .host (IntOp.addi (IntOp.muli 10000#64 (BitVec.ofNat 64 r)) (IntOp.muli 1#64 (BitVec.ofNat 64 c))) 32#64).setWidth 32
      = 0#32 := by
  unfold IntOp.addi IntOp.muli IntOp.shrui
  rw [if_pos (by decide)]
  apply BitVec.eq_of_toNat_eq
  simp only [BitVec.toNat_setWidth, BitVec.toNat_add, BitVec.toNat_mul, BitVec.toNat_ofNat, BitVec.toNat_ushiftRight,
    BitVec.ushiftRight_eq', Nat.shiftRight_eq_div_pow, Nat.reducePow, Nat.reduceMod]
  rw [show (10000 * (r % 18446744073709551616) % 18446744073709551616 + 1 * (c % 18446744073709551616) % 18446744073709551616)
    % 18446744073709551616 = 10000 * r + c by omega,
    Nat.div_eq_of_lt (by omega)]

/-- A number at every position of the large array, by way of a one-by-one array. -/
def stretch (x : S_.Idx → EReal) : S10000x10000.Idx → EReal :=
  broadcastInDim (s := S1x1) S10000x10000 ![0, 1] (by decide) (broadcastInDim (s := S_) S1x1 ![] (by decide) x)

/-- Every position of the stretched number holds the number. -/
theorem stretch_apply (x : S_.Idx → EReal) (j : S10000x10000.Idx) : stretch x j = x ix0 :=
  congrArg x (funext fun a => a.elim0)

/-- The noise function's result at a position is the number of the position's pair of words, when its key is the seed's and its
    interval goes from zero to one. -/
theorem lines_uniform (k : TRef sig ⟨S2, .i32⟩) (lo hi : TRef sig ⟨S_, .f32⟩) (φ : fn_uniform.Bufs) :
    Lines (fn_uniform.body (F := Ideal) k lo hi φ) fun W =>
      rd k W (ix1 0) = 1832780943#32 → rd k W (ix1 1) = 270669613#32 → rd lo W ix0 = (0 : EReal) → rd hi W ix0 = (1 : EReal) →
      ∀ r c : Fin 10000, rd φ.v34 W (ix2 r c) = unit (pair r c) := by
  unfold fn_uniform.body
  apply Lines.mono
  · repeat (first
      | exact Lines.ret
      | apply Lines.bind .tnullary
      | apply Lines.bind .tunary
      | apply Lines.bind .tbinary
      | apply Lines.bind .treshape
      | apply Lines.bind (lines_hash0 _ _ _ _ _))
  · rintro W ⟨e0, e1, e2, e3, e4, e5, e6, e7, e8, e9, ec, e10, e11, ec0, e12, e13, e14, ec1, e15, e16, e17, e18, eh, e20, ec2, e21,
      e22, ec3, e23, e24, e25, ecst, e26, e27, e28, e29, e30, e31, e32, e33, e34, -⟩ hk0 hk1 hlo hhi r c
    have h := eh (ix2 r c)
    rw [e5, e4, e7, e6, e18, e16, e17] at h
    simp only [cut_fst, cut_snd, scalar_of, hk0, hk1] at h
    have w14 : rd φ.v14 W (ix2 r c) = IntOp.addi (IntOp.muli 10000#64 (BitVec.ofNat 64 r)) (IntOp.muli 1#64 (BitVec.ofNat 64 c)) := by
      rw [e14, e11, e13, e10, e12, ec, ec0, e8, e9]; rfl
    have w15 : rd φ.v15 W (ix2 r c) = 32#64 := by rw [e15, ec1]; rfl
    rw [show trunci 32 (Host.shrui (rd φ.v14 W) (rd φ.v15 W)) (by decide) (ix2 r c) = 0#32 from by
        show (IntOp.shrui .host (rd φ.v14 W (ix2 r c)) (rd φ.v15 W (ix2 r c))).setWidth 32 = _
        rw [w14, w15]; exact word_hi r.2 c.2,
      show trunci 32 (rd φ.v14 W) (by decide) (ix2 r c) = BitVec.ofNat 32 (10000 * r + c) from by
        show (rd φ.v14 W (ix2 r c)).setWidth 32 = _
        rw [w14]; exact word_lo r.2 c.2] at h
    have u : rd φ.v27 W (ix2 r c) = unit (pair r c) := by
      rw [e27, e25, e26, e24, e22, e23, e21, ec2, ec3, ecst, e20, pair, ← h]
      show Ideal.ofBits .f32 (IntOp.ori (IntOp.shrui .host (IntOp.xori (rd φ.call0.v171 W (ix2 r c)) (rd φ.call0.v175 W (ix2 r c))) 9#32)
        1065353216#32) - Ideal.ofBits .f32 1065353216#32 = _
      rw [shrui_host]; rfl
    rw [← unit_clip (pair r c) hlo hhi, ← u, e34, e33, e32, e30, e31, e29, e28, e3, e2, e1, e0]
    show max (stretch (rd lo W) (ix2 r c)) (rd φ.v27 W (ix2 r c) * (stretch (rd hi W) (ix2 r c) - stretch (rd lo W) (ix2 r c))
      + stretch (rd lo W) (ix2 r c)) = _
    simp only [stretch_apply]

end Cert.Proof

end
-- ==== Proof.RefTop.lean ====
/- The reference's choice: the positions its ranking names are those the rounds find, and the mask it scatters is one exactly there. -/
module

public import proofs.«01_k».proof.ReferenceIdeal
public import proofs.«01_k».proof.Proof.Gen.ReferenceIdeal
public import proofs.«01_k».proof.Proof.Select
public import Idealize.ShloMosaic.Lib.Routing.OpsPair
public import Idealize.ShloMosaic.Lib.Routing.OpsSet
public import Idealize.ShloMosaic.Lib.ValueIdx
public import Idealize.ShloMosaic.Lib.IdealHost

@[expose] public section

set_option maxRecDepth 16384

noncomputable section

namespace Cert.Proof

open Idealize.ShloMosaic Cert.ReferenceIdeal Idealize.ShloMosaic.ValueIdx

/-- The index `(r, c)` of a matrix moved along its second axis. -/
theorem along_ix2 {n m : ℕ} (r : Fin n) (c k : Fin m) (h : 1 < (⟨2, ![n, m]⟩ : Shape).rank) :
    (ix2 r c : (⟨2, ![n, m]⟩ : Shape).Idx).along ⟨1, h⟩ k = ix2 r k := by
  funext a
  match a with
  | ⟨0, _⟩ => rfl
  | ⟨1, _⟩ => rfl

/-- A sort of a matrix along its second axis, read at an index. -/
theorem sortBy_ix2 {n m : ℕ} {ι α : Type} (cmp : ι → ι → BitVec 1) (rows : (⟨2, ![n, m]⟩ : Shape).Idx → ι)
    (x : (⟨2, ![n, m]⟩ : Shape).Idx → α) (r : Fin n) (q : Fin m) :
    Host.sortBy (⟨2, ![n, m]⟩ : Shape) 1 cmp rows x (ix2 r q)
      = x (ix2 r (sortedFrom (fun k k' : Fin m => cmp (rows (ix2 r k)) (rows (ix2 r k')) == 1#1) q)) := by
  have hd : 1 < (⟨2, ![n, m]⟩ : Shape).rank := by show 1 < 2; decide
  have e : (fun k k' : Fin m => cmp (rows ((ix2 r q : (⟨2, ![n, m]⟩ : Shape).Idx).along ⟨1, hd⟩ k))
      (rows ((ix2 r q : (⟨2, ![n, m]⟩ : Shape).Idx).along ⟨1, hd⟩ k')) == 1#1)
      = fun k k' : Fin m => cmp (rows (ix2 r k)) (rows (ix2 r k')) == 1#1 := by
    funext k k'
    rw [along_ix2, along_ix2]
  rw [← e]
  exact congrArg x (along_ix2 r q _ hd)

/-- The ranking's `i`-th position in a row is the one round `i` finds. -/
theorem topK_index (x : FVec Ideal S10000x10000 .f32) (h : S10000x10000.Slices (fun _ => 0) S10000x20) (r : Fin 10000)
    (hv : ∀ c : Fin 10000, x (ix2 r c) ≠ (⊥ : EReal)) (i : Fin 20) :
    (Host.topK S10000x20 1 (FloatOps.cmpfTotal (F := Ideal) .gt) x h).2 (ix2 r i)
      = BitVec.ofNat 32 (found (fun c => (x (ix2 r c) : EReal)) i).val := by
  unfold Host.topK
  dsimp only
  rw [Host.sort2_eq_sortBy]
  dsimp only
  have hj : ∀ (s : S10000x10000.Idx → BitVec 32), extractStridedSlice S10000x20 (fun _ => 0) s h (ix2 r i)
      = s (ix2 r (i.castLE (by decide) : Fin 10000)) := fun s => congrArg s (by
    funext a
    apply Fin.ext
    fin_cases a
    · exact Nat.zero_add _
    · exact Nat.zero_add _)
  rw [hj]
  rw [sortBy_ix2]
  rw [← sortedFrom_before hv (by decide : 20 ≤ 10000) i, ← sortedFrom_entries]
  refine congrArg (fun s : Fin 10000 → Fin 10000 → Bool => BitVec.ofNat 32 (sortedFrom s (i.castLE (by decide))).val)
    (funext fun k => funext fun k' => ?_)
  show (BitVec.ofBool (decide ((x (ix2 r k') : EReal) < x (ix2 r k))) == 1#1) = _
  cases decide ((x (ix2 r k') : EReal) < x (ix2 r k)) <;> rfl

/-- An array of zeros into which ones are written at the positions `(r, σ r i)` is one exactly at these. -/
theorem scatter_ones (σ : Fin 10000 → Fin 20 → Fin 10000) (x : FVec Ideal S10000x10000 .f32) (w : IVec S10000x20x2 32)
    (u : FVec Ideal S10000x20 .f32) (zero one : EReal) (hx : ∀ i, x i = zero) (hu : ∀ i, u i = one)
    (h0 : ∀ r i, w (ix3 r i 0) = BitVec.ofNat 32 r.val) (h1 : ∀ r i, w (ix3 r i 1) = BitVec.ofNat 32 (σ r i).val) (r c : Fin 10000) :
    (Host.scatter scatter_S10000x10000_S10000x20x2_S10000x20_n_01_01_2 (fun _ b => b) x w u (ix2 r c) : EReal)
      = open Classical in if ∃ i, σ r i = c then one else zero := by
  have hint : ∀ a b : Fin 10000, (BitVec.ofNat 32 a.val).toInt = (b.val : Int) ↔ a = b := by
    intro a b
    have e : (BitVec.ofNat 32 a.val).toNat = a.val := by rw [BitVec.toNat_ofNat]; omega
    rw [BitVec.toInt_eq_toNat_of_lt (by rw [e]; omega), e, Fin.ext_iff]
    exact Nat.cast_inj
  have hl : ∀ (a : Fin 10000) (b : Fin 20),
      scatter_S10000x10000_S10000x20x2_S10000x20_n_01_01_2.resultIdx? (ix2 a b) w = some (ix2 r c) ↔ a = r ∧ σ a b = c := by
    intro a b
    rw [Routing.scatter_lands2 _ rfl rfl rfl, h0, h1, hint, hint]
  by_cases hc : ∃ i, σ r i = c
  · rw [if_pos hc]
    obtain ⟨i, hi⟩ := hc
    exact Routing.scatter_set_hit _ x w u _ one (fun k _ => hu k) (ix2 r i) ((hl r i).mpr ⟨rfl, hi⟩)
  · rw [if_neg hc, ← hx (ix2 r c)]
    refine Routing.scatter_set_miss _ x w u _ fun k hk => ?_
    obtain ⟨a, b, rfl⟩ : ∃ (a : Fin 10000) (b : Fin 20), k = ix2 a b := ⟨k 0, k 1, eq_ix2 k⟩
    obtain ⟨rfl, e⟩ := (hl a b).mp hk
    exact hc ⟨b, e⟩

end Cert.Proof

end
-- ==== Proof.RefMain.lean ====
/- What the reference computes: its result is the adjacency of its arguments with only the best entries of every row kept. -/
module

public import proofs.«01_k».proof.Proof.RefDraw
public import proofs.«01_k».proof.Proof.RefTop
public import proofs.«01_k».proof.Proof.Spec
public import Idealize.ShloMosaic.Lib.StackMember
public import Idealize.ShloMosaic.Lib.ValueLayout

@[expose] public section

set_option maxRecDepth 16384

noncomputable section

namespace Cert.Proof

open Idealize.ShloMosaic Idealize.ShloMosaic.StableHlo Idealize.SL.Sem Cert.ReferenceIdeal Idealize.ShloMosaic.ValueIdx

attribute [local irreducible] fn_threefry_fold_in.body fn_uniform.body fn_relu.body

/-- The first component of the pairs of words put together from two arrays. -/
theorem join3_fst {α : Type} (x y : S10000x20x1.Idx → α) (h : Shape.Concatenates [S10000x20x1, S10000x20x1] S10000x20x2 2)
    (r : Fin 10000) (i : Fin 20) :
    concatenate S10000x20x2 2 [⟨S10000x20x1, x⟩, ⟨S10000x20x1, y⟩] h (ix3 r i (0 : Fin 2)) = x (ix3 r i (0 : Fin 1)) :=
  concatenate_pair_apply_left 2 x y h _ rfl _ fun b => match b with
    | ⟨0, _⟩ => rfl
    | ⟨1, _⟩ => rfl
    | ⟨2, _⟩ => rfl

/-- The second component of the pairs of words put together from two arrays. -/
theorem join3_snd {α : Type} (x y : S10000x20x1.Idx → α) (h : Shape.Concatenates [S10000x20x1, S10000x20x1] S10000x20x2 2)
    (r : Fin 10000) (i : Fin 20) :
    concatenate S10000x20x2 2 [⟨S10000x20x1, x⟩, ⟨S10000x20x1, y⟩] h (ix3 r i (1 : Fin 2)) = y (ix3 r i (0 : Fin 1)) :=
  concatenate_pair_apply_right 2 x y h _ rfl rfl _ (fun b => match b with
    | ⟨0, _⟩ => fun _ => rfl
    | ⟨1, _⟩ => fun _ => rfl
    | ⟨2, _⟩ => fun hb => absurd rfl hb) rfl

/-- A matrix of twenty columns as an array of one-entry vectors. -/
theorem spread3 {α : Type} (x : S10000x20.Idx → α) (h : S10000x20.BroadcastsInDim S10000x20x1 ![0, 1]) (r : Fin 10000) (i : Fin 20) :
    broadcastInDim S10000x20x1 ![0, 1] h x (ix3 r i (0 : Fin 1)) = x (ix2 r i) :=
  broadcastInDim_apply _ _ _ _ _ fun a => match a with
    | ⟨0, _⟩ => rfl
    | ⟨1, _⟩ => rfl

/-- A large matrix with two axes of extent one put before its own. -/
theorem box {α : Type} (x : S10000x10000.Idx → α) (h : S10000x10000.BroadcastsInDim S1x10000x10000 ![1, 2])
    (h' : S1x10000x10000.BroadcastsInDim S1x1x10000x10000 ![1, 2, 3]) (a b : Fin 1) (r c : Fin 10000) :
    broadcastInDim S1x1x10000x10000 ![1, 2, 3] h' (broadcastInDim S1x10000x10000 ![1, 2] h x) (ix4 a b r c) = x (ix2 r c) :=
  (broadcastInDim_apply _ _ _ _ (ix3 (0 : Fin 1) r c) fun a => match a with
    | ⟨0, _⟩ => rfl
    | ⟨1, _⟩ => rfl
    | ⟨2, _⟩ => rfl).trans
  (broadcastInDim_apply _ _ _ _ _ fun a => match a with
    | ⟨0, _⟩ => rfl
    | ⟨1, _⟩ => rfl)

/-- The reference's features: the product with the transposed weights, three times it, saturated. -/
theorem feat_host (e : FVec Ideal S10000x64 .f32) (w : FVec Ideal S64x64 .f32) (h : S64x64.Transposes [1, 0] S64x64)
    (hb : S_.BroadcastsInDim S10000x64 ![]) (r : Fin 10000) (k : Fin 64) :
    (Host.tanh (mulf (broadcastInDim S10000x64 ![] hb (constant (F := Ideal) S_ .f32 0x40400000#32))
      (Host.dotGeneral dot_S10000x64_S64x64_S10000x64_1_0_0_1_n_n none e (transpose S64x64 [1, 0] w h))) (ix2 r k) : EReal)
      = feat (mat e) (mat w) r k := by
  show Ideal.tanh (three * Host.dotGeneral (DotDims.plain 10000 64 64) none e (transpose S64x64 [1, 0] w h) (ix2 r k)) = _
  rw [StackMember.dotGeneral_plain_apply]
  exact congrArg (fun z : EReal => Ideal.tanh (three * z))
    (Finset.sum_congr rfl fun j _ => congrArg (fun z : EReal => (e (ix2 r j) : EReal) * z) (transpose_ix2_apply w h j k))

/-- The reference's skew product, by way of the transposed features. -/
theorem skew_host (a b : FVec Ideal S10000x64 .f32) (h : S10000x64.Transposes [1, 0] S64x10000) (r c : Fin 10000) :
    (subf (Host.dotGeneral dot_S10000x64_S64x10000_S10000x10000_1_0_0_1_n_n none a (transpose S64x10000 [1, 0] b h))
      (Host.dotGeneral dot_S10000x64_S64x10000_S10000x10000_1_0_0_1_n_n none b (transpose S64x10000 [1, 0] a h)) (ix2 r c) : EReal)
      = skew (mat a) (mat b) r c := by
  show (Host.dotGeneral (DotDims.plain 10000 64 10000) none a (transpose S64x10000 [1, 0] b h) (ix2 r c) : EReal)
    - Host.dotGeneral (DotDims.plain 10000 64 10000) none b (transpose S64x10000 [1, 0] a h) (ix2 r c) = _
  rw [StackMember.dotGeneral_plain_apply, StackMember.dotGeneral_plain_apply]
  exact congrArg₂ (fun y z : EReal => y - z)
    (Finset.sum_congr rfl fun j _ => congrArg (fun z : EReal => (a (ix2 r j) : EReal) * z) (transpose_ix2_apply b h j c))
    (Finset.sum_congr rfl fun j _ => congrArg (fun z : EReal => (b (ix2 r j) : EReal) * z) (transpose_ix2_apply a h j c))

/-- The rectifier's result is the greater of its operand and zero. -/
theorem lines_relu (x : TRef sig ⟨S10000x10000, .f32⟩) (φ : fn_relu.Bufs) :
    Lines (fn_relu.body (F := Ideal) x φ) fun W => ∀ i, rd φ.v1 W i = max (rd x W i : EReal) (Ideal.ofBits .f32 0x00000000#32) := by
  unfold fn_relu.body
  apply Lines.mono
  · repeat (first
      | exact Lines.ret
      | apply Lines.bind .tnullary
      | apply Lines.bind .tunary
      | apply Lines.bind .tbinary)
  · rintro W ⟨e1, e2, e3, -⟩ i
    rw [e3, e2, e1]
    rfl

/-- The adjacency of the arguments that a valuation holds. -/
def adjOf (W : Valuation τ sig (Elt Ideal)) : Fin 10000 → Fin 10000 → EReal :=
  adj (mat (W (Proc.devRef .tc main_arg0))) (mat (W (Proc.devRef .tc main_arg1))) (mat (W (Proc.devRef .tc main_arg2)))

/-- The adjacency is nowhere negative. -/
theorem adjOf_nonneg (W : Valuation τ sig (Elt Ideal)) (r c : Fin 10000) : 0 ≤ adjOf W r c := link_nonneg _

/-- What part 0 of the reference leaves for part 1: the adjacency, the positions found in every row, the rows' own numbers. -/
structure Mid (W : Valuation τ sig (Elt Ideal)) : Prop where
  adj : ∀ r c : Fin 10000, (W (Proc.devRef .tc main_v18) (ix2 r c) : EReal) = adjOf W r c
  zero : ∀ i, (W (Proc.devRef .tc main_v33) i : EReal) = (0 : EReal)
  row : ∀ r : Fin 10000, (W (Proc.devRef .tc main_v38) (ix2 r (0 : Fin 1)) : BitVec 32) = BitVec.ofNat 32 r.val
  col : ∀ (r : Fin 10000) (i : Fin 20), Scalar.select (W (Proc.devRef .tc main_v40) (ix2 r i) : BitVec 1) (W (Proc.devRef .tc main_v42) (ix2 r i) : BitVec 32)
    (W (Proc.devRef .tc main_indices) (ix2 r i) : BitVec 32) = BitVec.ofNat 32 (found (score (adjOf W) r) i).val

/-- The word of a row's number is not negative. -/
theorem small_word (r : Fin 10000) : (BitVec.ofNat 32 r.val).toNat < 2 ^ (32 - 1) := by
  rw [BitVec.toNat_ofNat]
  omega

/-- Part 0 of the reference leaves what is asked of it. -/
theorem lines_part0 (d : Dev nD) : Lines (main_part0 (F := Ideal) d) Mid := by
  unfold main_part0
  apply Lines.mono
  · repeat (first
      | exact Lines.binary
      | apply Lines.bind .nullary
      | apply Lines.bind .unary
      | apply Lines.bind .binary
      | apply Lines.bind .ternary
      | apply Lines.bind (lines_relu _ _)
      | apply Lines.bind (lines_fold_in _ _ _)
      | apply Lines.bind (lines_uniform _ _ _ _))
  · rintro W ⟨t0, d1, c3, b2, m3, h4, t5, d6, c30, b7, m8, h9, t10, d11, t12, d13, s14, c31, b15, m16, h17, hrelu, hc, hc2, h19, h20,
      h21, hc3, h22, h23, h24, h25, hc4, hfold, hcst5, hcst6, huni, hcst7, h28, h29, h30, hval, hind, h31, h32, hcst8, h33, hc9, h34,
      h35, hc10, h36, h37, h38, hc11, h39, h40, hc12, h41, h42⟩
    have f4 : mat (W (Proc.devRef .tc main_v4)) = feat (mat (W (Proc.devRef .tc main_arg0))) (mat (W (Proc.devRef .tc main_arg1))) := by
      funext r k
      rw [mat, h4, m3, b2, c3, d1, t0]
      exact feat_host _ _ _ _ r k
    have f9 : mat (W (Proc.devRef .tc main_v9)) = feat (mat (W (Proc.devRef .tc main_arg0))) (mat (W (Proc.devRef .tc main_arg2))) := by
      funext r k
      rw [mat, h9, m8, b7, c30, d6, t5]
      exact feat_host _ _ _ _ r k
    have hadj : ∀ r c : Fin 10000, (W (Proc.devRef .tc main_v18) (ix2 r c) : EReal) = adjOf W r c := by
      intro r c
      have e : (W (Proc.devRef .tc main_v17) (ix2 r c) : EReal) = Ideal.tanh (three * skew (mat (W (Proc.devRef .tc main_v4))) (mat (W (Proc.devRef .tc main_v9))) r c) := by
        rw [h17, m16, b15, c31, s14, d13, t12, d11, t10]
        exact congrArg (fun z : EReal => Ideal.tanh (three * z)) (skew_host _ _ _ r c)
      rw [f4, f9] at e
      exact (hrelu (ix2 r c)).trans (congrArg (fun z : EReal => max z (Ideal.ofBits .f32 0x00000000#32)) e)
    have hkey := hfold (by
        show W (Proc.devRef .tc main_v25) (ix1 0) = 0#32
        rw [h25]
        refine (join_fst _ _ _).trans ?_
        rw [h21, h20, h19, hc, hc2]
        show IntOp.shrui .host 42#32 32#32 = 0#32
        decide) (by
        show W (Proc.devRef .tc main_v25) (ix1 1) = 42#32
        rw [h25]
        refine (join_snd _ _ _).trans ?_
        rw [h24, h23, h22, hc, hc3]
        show IntOp.andi 42#32 4294967295#32 = 42#32
        decide) (by
        show W (Proc.devRef .tc main_c_4) ix0 = 0#32
        rw [hc4]
        rfl)
    have hnoise := huni hkey.1 hkey.2 (by
        show (W (Proc.devRef .tc main_cst_5) ix0 : EReal) = (0 : EReal)
        rw [hcst5]
        exact Ideal.ofBits_zero_f32) (by
        show (W (Proc.devRef .tc main_cst_6) ix0 : EReal) = (1 : EReal)
        rw [hcst6]
        exact Ideal.ofBits_one_f32)
    have hscore : ∀ r c : Fin 10000, (W (Proc.devRef .tc main_v30) (ix2 r c) : EReal) = score (adjOf W) r c := by
      intro r c
      rw [h30, h29, h28, hcst7]
      exact congrArg₂ (fun a u : EReal => a + u * Ideal.ofBits .f32 0x3C23D70A#32) (hadj r c) (hnoise r c)
    have hindex : ∀ (r : Fin 10000) (i : Fin 20), (W (Proc.devRef .tc main_indices) (ix2 r i) : BitVec 32)
        = BitVec.ofNat 32 (found (score (adjOf W) r) i).val := by
      intro r i
      rw [hind]
      refine (topK_index _ _ r (fun c => ?_) i).trans ?_
      · rw [hscore]
        exact score_ne_bot (adjOf_nonneg W) r c
      rw [show (fun c => (W (Proc.devRef .tc main_v30) (ix2 r c) : EReal)) = score (adjOf W) r from funext fun c => hscore r c]
    refine ⟨hadj, fun i => ?_, fun r => ?_, fun r i => ?_⟩
    · rw [h33, hcst8]
      exact Ideal.ofBits_zero_f32
    · have e : (W (Proc.devRef .tc main_v32) (ix2 r (0 : Fin 1)) : BitVec 32) = BitVec.ofNat 32 r.val := by
        rw [h32, h31]
        rfl
      rw [h38, h35, h34, hc9]
      refine Eq.trans ?_ e
      refine Routing.wrap_of_lt (W (Proc.devRef .tc main_v32) (ix2 r (0 : Fin 1)) : BitVec 32) _ ?_
      rw [e]
      exact small_word r
    · have e := hindex r i
      rw [h40, h39, hc11, ← e]
      refine Routing.wrap_of_lt (W (Proc.devRef .tc main_indices) (ix2 r i) : BitVec 32) _ ?_
      rw [e]
      exact small_word _

/-- The reference's result, by row and column. -/
theorem lines_main (d : Dev nD) : Lines (main (F := Ideal) d) fun W =>
    ∀ (a b : Fin 1) (r c : Fin 10000), (W (Proc.devRef .tc main_v52) (ix4 a b r c) : EReal) = masked (adjOf W) r c := by
  apply Lines.mono
  · apply Lines.bind (lines_part0 d)
    unfold main_part1
    repeat (first
      | exact Lines.ret
      | apply Lines.bind .nullary
      | apply Lines.bind .unary
      | apply Lines.bind .binary
      | apply Lines.bind .ternary)
  · rintro W ⟨mid, h43, h44, h45, h46, h47, hcst, h48, h49, h50, h51, h52, -⟩ a b r c
    have hm : (W (Proc.devRef .tc main_v49) (ix2 r c) : EReal) = open Classical in if ∃ i : Fin 20, found (score (adjOf W) r) i = c then (1 : EReal) else (0 : EReal) := by
      rw [h49]
      refine scatter_ones (fun r i => found (score (adjOf W) r) i) _ _ _ 0 1 mid.zero (fun i => ?_) (fun r i => ?_) (fun r i => ?_) r c
      · rw [h48, hcst]
        exact Ideal.ofBits_one_f32
      · rw [h47]
        refine (join3_fst _ _ _ r i).trans ?_
        rw [h45, h44]
        refine (spread3 _ _ r i).trans ((broadcastInDim_apply _ _ _ _ (ix2 r (0 : Fin 1)) fun a => ?_).trans (mid.row r))
        match a with
        | ⟨0, _⟩ => rfl
        | ⟨1, _⟩ => rfl
      · rw [h47]
        refine (join3_snd _ _ _ r i).trans ?_
        rw [h46, h43]
        exact (spread3 _ _ r i).trans (mid.col r i)
    have e : (W (Proc.devRef .tc main_v52) (ix4 a b r c) : EReal)
        = mat (W (Proc.devRef .tc main_v18)) r c * mat (W (Proc.devRef .tc main_v49)) r c := by
      rw [h52, h51, h50]
      exact box _ _ _ a b r c
    rw [e]
    rw [mat, mat, mid.adj, hm, masked]
    by_cases hk : Kept (adjOf W) r c
    · obtain ⟨i, hi, e⟩ := id hk
      rw [if_pos hk, if_pos ⟨⟨i, hi⟩, e⟩, mul_one]
    · rw [if_neg hk, if_neg fun ⟨i, e⟩ => hk ⟨i, i.isLt, e⟩, mul_zero]

end Cert.Proof

end
-- ==== Proof.Equal.lean ====
/- The value claim: from equal arguments the kernel program and the reference end with equal results. -/
module

public import proofs.«01_k».proof.Defs
public import proofs.«01_k».proof.Proof.KerRun
public import proofs.«01_k».proof.Proof.RefMain
public import proofs.«01_k».proof.Proof.RefFrame

@[expose] public section

set_option maxRecDepth 16384

noncomputable section

namespace Cert.Proof

open Idealize.ShloMosaic hiding ix4 eq_ix4
open Idealize.ShloMosaic.ValueIdx Idealize.SL.Sem

/-- The kernel program and the reference, both at extended reals and from memories that agree on the arguments, run, end with equal
    results and leave their arguments unchanged. -/
theorem equal : algebraic_KernelIdeal_ReferenceIdeal (hKernelIdeal := Cert.KernelIdeal.Gen.facts)
    (hReferenceIdeal := Cert.ReferenceIdeal.Gen.facts) := by
  intro m g m' g' _ hagree
  refine ⟨fun c => KernelIdeal.Gen.W6 m g c (Proc.devRef .tc KernelIdeal.main_v16), ker_run m g, ?_⟩
  refine θ_run_mono (ref_run lines_main m' g') fun r h c => ?_
  obtain ⟨W, hW, hk, hv⟩ := h c
  obtain ⟨h0, h1, h2⟩ := hagree c
  have k0 := hk ReferenceIdeal.main_arg0 (by decide)
  have k1 := hk ReferenceIdeal.main_arg1 (by decide)
  have k2 := hk ReferenceIdeal.main_arg2 (by decide)
  have hadj : adjOf W = adjAt m c := by
    unfold adjOf adjAt
    rw [k0, k1, k2, h0, h1, h2]
  refine ⟨(hW _).trans ?_, (hW _).trans k0, (hW _).trans k1, (hW _).trans k2⟩
  funext i
  obtain ⟨a, b, r, s, rfl⟩ : ∃ (a b : Fin 1) (r s : Fin 10000), i = ix4 a b r s := ⟨i 0, i 1, i 2, i 3, eq_ix4 i⟩
  refine (hv a b r s).trans ?_
  rw [hadj]
  exact (at_v16 m g c a b r s).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim: the three programs run, leave their arguments unchanged and end with every counter at zero; the kernel read at
    extended reals is the kernel's own text; and its result there is the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => ref_frame m ρ, trivial, equal⟩

end Cert.Proof

end
